-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x512x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1x512x1024 .bf16 := Host.absf main_arg0
  let main_cst : FVec F S_ .bf16 := constant S_ .bf16 0x7F80#16
  let main_v1 : FVec F S1x512x1024 .bf16 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .bf16 := Host.absf main_arg2
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S1x512x1024 .bf16) (main_arg1 : FVec F S1024x8192 .bf16) (main_arg2 : FVec F S1024x8192 .bf16) (main_arg3 : FVec F S1024x8192 .bf16) (main_arg4 : FVec F S8192x1024 .bf16) : IVec S_ 1 :=
  let main_v0 : FVec F S1x512x1024 .bf16 := Host.absf main_arg0
  let main_cst : FVec F S_ .bf16 := constant S_ .bf16 0x7F80#16
  let main_v1 : FVec F S1x512x1024 .bf16 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x8192 .bf16 := Host.absf main_arg1
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x8192 .bf16 := Host.absf main_arg2
  let main_cst_2 : FVec F S_ .bf16 := constant S_ .bf16 0x7F80#16
  let main_v10 : FVec F S1024x8192 .bf16 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S256x384 : Shape := ⟨2, ![256, 384]⟩
abbrev S256x256 : Shape := ⟨2, ![256, 256]⟩
abbrev S3x256x384 : Shape := ⟨3, ![3, 256, 384]⟩
abbrev S3x256x256 : Shape := ⟨3, ![3, 256, 256]⟩
abbrev S2x3x3 : Shape := ⟨3, ![2, 3, 3]⟩
abbrev S_ : Shape := ⟨0, ![]⟩
abbrev S512x1024 : Shape := ⟨2, ![512, 1024]⟩
abbrev S256x128 : Shape := ⟨2, ![256, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S1x1x1 : Shape := ⟨3, ![1, 1, 1]⟩
abbrev S1x256x384 : Shape := ⟨3, ![1, 256, 384]⟩
abbrev S1x256x256 : Shape := ⟨3, ![1, 256, 256]⟩

abbrev nBuf : Space → Nat
  | .hbm => 6
  | .vmem => 18
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x512x1024, .f32⟩
  | .local _ .vmem, ⟨0, _⟩ => ⟨S1x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S256x384, .bf16⟩
  | .local _ .vmem, ⟨7, _⟩ => ⟨S256x384, .bf16⟩
  | .local _ .vmem, ⟨8, _⟩ => ⟨S256x256, .bf16⟩
  | .local _ .vmem, ⟨9, _⟩ => ⟨S256x384, .bf16⟩
  | .local _ .vmem, ⟨10, _⟩ => ⟨S256x384, .bf16⟩
  | .local _ .vmem, ⟨11, _⟩ => ⟨S256x256, .bf16⟩
  | .local _ .vmem, ⟨12, _⟩ => ⟨S3x256x384, .bf16⟩
  | .local _ .vmem, ⟨13, _⟩ => ⟨S3x256x384, .bf16⟩
  | .local _ .vmem, ⟨14, _⟩ => ⟨S3x256x256, .bf16⟩
  | .local _ .vmem, ⟨15, _⟩ => ⟨S3x256x384, .bf16⟩
  | .local _ .vmem, ⟨16, _⟩ => ⟨S3x256x384, .bf16⟩
  | .local _ .vmem, ⟨17, _⟩ => ⟨S3x256x256, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  v4.toNat
def k0_dev2 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v5 : BitVec 32 := Scalar.xori v2 c3_i32
  v5.toNat
def k0_dev3 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  v6.toNat
def k0_dev4 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_45 : BitVec 32 := 1#32
  let v130 : BitVec 32 := Scalar.xori v2 c1_i32_45
  v130.toNat
def k0_dev5 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v140 : BitVec 32 := Scalar.xori v2 c3_i32_56
  v140.toNat
def k0_dev6 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_68 : BitVec 32 := 4#32
  let v150 : BitVec 32 := Scalar.xori v2 c4_i32_68
  v150.toNat
def k0_dev7 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_104 : BitVec 32 := 1#32
  let v262 : BitVec 32 := Scalar.xori v2 c1_i32_104
  v262.toNat
def k0_dev8 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_116 : BitVec 32 := 3#32
  let v272 : BitVec 32 := Scalar.xori v2 c3_i32_116
  v272.toNat
def k0_dev9 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_128 : BitVec 32 := 4#32
  let v282 : BitVec 32 := Scalar.xori v2 c4_i32_128
  v282.toNat
def k0_dev10 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_216 : BitVec 32 := 3#32
  let v334 : BitVec 32 := Scalar.xori v2 c3_i32_216
  v334.toNat
def k0_dev11 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_226 : BitVec 32 := 4#32
  let v341 : BitVec 32 := Scalar.xori v2 c4_i32_226
  v341.toNat
def k0_dev12 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_236 : BitVec 32 := 1#32
  let v348 : BitVec 32 := Scalar.xori v2 c1_i32_236
  v348.toNat
def k0_dev13 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_324 : BitVec 32 := 3#32
  let v400 : BitVec 32 := Scalar.xori v2 c3_i32_324
  v400.toNat
def k0_dev14 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_334 : BitVec 32 := 4#32
  let v407 : BitVec 32 := Scalar.xori v2 c4_i32_334
  v407.toNat
def k0_dev15 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_344 : BitVec 32 := 1#32
  let v414 : BitVec 32 := Scalar.xori v2 c1_i32_344
  v414.toNat
def k0_dev16 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_431 : BitVec 32 := 4#32
  let v466 : BitVec 32 := Scalar.xori v2 c4_i32_431
  v466.toNat
def k0_dev17 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_441 : BitVec 32 := 1#32
  let v473 : BitVec 32 := Scalar.xori v2 c1_i32_441
  v473.toNat
def k0_dev18 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_451 : BitVec 32 := 3#32
  let v480 : BitVec 32 := Scalar.xori v2 c3_i32_451
  v480.toNat
def k0_dev19 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_539 : BitVec 32 := 4#32
  let v532 : BitVec 32 := Scalar.xori v2 c4_i32_539
  v532.toNat
def k0_dev20 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_549 : BitVec 32 := 1#32
  let v539 : BitVec 32 := Scalar.xori v2 c1_i32_549
  v539.toNat
def k0_dev21 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_559 : BitVec 32 := 3#32
  let v546 : BitVec 32 := Scalar.xori v2 c3_i32_559
  v546.toNat
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S512x1024 : Shape := ⟨2, ![512, 1024]⟩
abbrev S512x8192 : Shape := ⟨2, ![512, 8192]⟩
abbrev S512x64x128 : Shape := ⟨3, ![512, 64, 128]⟩
abbrev S64x512x512 : Shape := ⟨3, ![64, 512, 512]⟩
abbrev S_ : Shape := ⟨0, ![]⟩
abbrev S64x512 : Shape := ⟨2, ![64, 512]⟩
abbrev S64x512x1 : Shape := ⟨3, ![64, 512, 1]⟩
abbrev S64x128x512 : Shape := ⟨3, ![64, 128, 512]⟩
abbrev S512x64x1 : Shape := ⟨3, ![512, 64, 1]⟩

abbrev nBuf : Space → Nat
  | .hbm => 42
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x8192, .bf16⟩
  | .hbm, ⟨2, _⟩ => ⟨S1024x8192, .bf16⟩
  | .hbm, ⟨3, _⟩ => ⟨S1024x8192, .bf16⟩
  | .hbm, ⟨4, _⟩ => ⟨S8192x1024, .bf16⟩
  | .hbm, ⟨5, _⟩ => ⟨S512x1024, .bf16⟩
  | .hbm, ⟨6, _⟩ => ⟨S512x8192, .f32⟩
  | .hbm, ⟨7, _⟩ => ⟨S512x8192, .bf16⟩
  | .hbm, ⟨8, _⟩ => ⟨S512x64x128, .bf16⟩
  | .hbm, ⟨9, _⟩ => ⟨S512x1024, .bf16⟩
  | .hbm, ⟨10, _⟩ => ⟨S512x8192, .f32⟩
  | .hbm, ⟨11, _⟩ => ⟨S512x8192, .bf16⟩
  | .hbm, ⟨12, _⟩ => ⟨S512x64x128, .bf16⟩
  | .hbm, ⟨13, _⟩ => ⟨S512x1024, .bf16⟩
  | .hbm, ⟨14, _⟩ => ⟨S512x8192, .f32⟩
  | .hbm, ⟨15, _⟩ => ⟨S512x8192, .bf16⟩
  | .hbm, ⟨16, _⟩ => ⟨S512x64x128, .bf16⟩
  | .hbm, ⟨17, _⟩ => ⟨S64x512x512, .f32⟩
  | .hbm, ⟨18, _⟩ => ⟨S64x512x512, .bf16⟩
  | .hbm, ⟨19, _⟩ => ⟨S64x512x512, .f32⟩
  | .hbm, ⟨20, _⟩ => ⟨S_, .f32⟩
  | .hbm, ⟨21, _⟩ => ⟨S64x512x512, .f32⟩
  | .hbm, ⟨22, _⟩ => ⟨S64x512x512, .f32⟩
  | .hbm, ⟨23, _⟩ => ⟨S_, .f32⟩
  | .hbm, ⟨24, _⟩ => ⟨S64x512, .f32⟩
  | .hbm, ⟨25, _⟩ => ⟨S64x512x1, .f32⟩
  | .hbm, ⟨26, _⟩ => ⟨S64x512x512, .f32⟩
  | .hbm, ⟨27, _⟩ => ⟨S64x512x512, .f32⟩
  | .hbm, ⟨28, _⟩ => ⟨S64x512x512, .f32⟩
  | .hbm, ⟨29, _⟩ => ⟨S_, .f32⟩
  | .hbm, ⟨30, _⟩ => ⟨S64x512, .f32⟩
  | .hbm, ⟨31, _⟩ => ⟨S64x512x1, .f32⟩
  | .hbm, ⟨32, _⟩ => ⟨S512x64x128, .f32⟩
  | .hbm, ⟨33, _⟩ => ⟨S64x128x512, .f32⟩
  | .hbm, ⟨34, _⟩ => ⟨S512x64x128, .f32⟩
  | .hbm, ⟨35, _⟩ => ⟨S512x64x1, .f32⟩
  | .hbm, ⟨36, _⟩ => ⟨S512x64x128, .f32⟩
  | .hbm, ⟨37, _⟩ => ⟨S512x64x128, .f32⟩
  | .hbm, ⟨38, _⟩ => ⟨S512x8192, .f32⟩
  | .hbm, ⟨39, _⟩ => ⟨S8192x1024, .f32⟩
  | .hbm, ⟨40, _⟩ => ⟨S512x1024, .f32⟩
  | .hbm, ⟨41, _⟩ => ⟨S1x512x1024, .f32⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.Protocol.lean ====
/-
# The exchange: cells, contents, schedule, what is owed

Eight devices each compute a `512 × 1024` partial product and add all eight up by a butterfly. The block is cut in
two row halves and each half in three column pieces, six LANES; a lane is exchanged in three STEPS, at step `s` a
device swapping its lane with the device whose number differs from its own in one of the masks 1, 3, 4, and both
adding what they receive. The 18 transfers of a device are numbered `i = 3 · lane + step`.

Transfer `i` has a send semaphore and a receive semaphore of its own, each used once. A device's transfer `i` raises
its own send semaphore, handing it back the buffer sent from, and its partner's receive semaphore, handing the
partner the landing slot with the sender's running sum in it. Before any transfer each device raises the barrier
semaphore of its three partners by one, handing each the landing slots that partner will write, and waits for three.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch's copy and the exchange's (three duty names) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Partners -/

/-- The partner along mask `k`: the device whose number differs in the bits of 1, 3 or 4. -/
def flip (c : Dev nD) (k : Fin 3) : Dev nD := ⟨(c.val ^^^ ![1, 3, 4] k) % 8, Nat.mod_lt _ (by decide)⟩
theorem flip_flip (c : Dev nD) (k : Fin 3) : flip (flip c k) k = c := by revert c k; decide
theorem flip_comm (c : Dev nD) (k k' : Fin 3) : flip (flip c k) k' = flip (flip c k') k := by revert c k k'; decide

/-- A transfer's lane and step, and which mask it uses. -/
def lane (i : Fin 18) : Fin 6 := ⟨i.val / 3, by omega⟩
def step (i : Fin 18) : Fin 3 := ⟨i.val % 3, Nat.mod_lt _ (by decide)⟩
def dim (i : Fin 18) : Fin 3 := ⟨(i.val / 3 + i.val % 3) % 3, Nat.mod_lt _ (by decide)⟩
def peer (i : Fin 18) (c : Dev nD) : Dev nD := flip c (dim i)
theorem peer_peer (i : Fin 18) (c : Dev nD) : peer i (peer i c) = c := flip_flip c _

/-- The transfers using mask `k`, numbered by row half and step. -/
def grp (kj : Fin 3 × Fin 6) : Fin 18 :=
  ⟨9 * (kj.2.val / 3) + 3 * ((kj.1.val + 3 - kj.2.val % 3) % 3) + kj.2.val % 3, by omega⟩
theorem grp_bijective : Function.Bijective grp := by decide
def grpE : Fin 3 × Fin 6 ≃ Fin 18 := Equiv.ofBijective grp grp_bijective
theorem dim_grp (k : Fin 3) (j : Fin 6) : dim (grp (k, j)) = k := by revert k j; decide

def flipE (k : Fin 3) : Dev nD ≃ Dev nD := ⟨fun c => flip c k, fun c => flip c k, fun c => flip_flip c k, fun c => flip_flip c k⟩
def peerE (i : Fin 18) : Dev nD ≃ Dev nD := flipE (dim i)

/-! ## The cells -/

/-- The barrier semaphore; the send and the receive semaphore of each transfer. -/
abbrev barS : Sem sig := (SemArray.scalar (sig.barrier 0 rfl) : Sems sig S_).sem
def sendS (i : Fin 18) : DmaSem sig := ⟨6 + i.val, by have := i.isLt; show 6 + i.val < 42; omega⟩
def recvS (i : Fin 18) : DmaSem sig := ⟨24 + i.val, by have := i.isLt; show 24 + i.val < 42; omega⟩

abbrev barCell (c : Dev nD) : GSem nD τ sig := ((c : Thread nD τ), .reg barS)
abbrev sendCell (i : Fin 18) (c : Dev nD) : GSem nD τ sig := ((c : Thread nD τ), .dma (sendS i))
abbrev recvCell (i : Fin 18) (c : Dev nD) : GSem nD τ sig := ((c : Thread nD τ), .dma (recvS i))

/-- Which transfer a semaphore number belongs to. -/
def idx (q : DmaSem sig) : Fin 18 := ⟨(q.val + 12) % 18, Nat.mod_lt _ (by decide)⟩
theorem idx_send (i : Fin 18) : idx (sendS i) = i := by revert i; decide
theorem idx_recv (i : Fin 18) : idx (recvS i) = i := by revert i; decide

/-- A kernel's own semaphores, and with the barrier all the exchange's. -/
abbrev OCell : Type := Fin 18 ⊕ Fin 18
abbrev KCell : Type := Unit ⊕ OCell
abbrev osem : OCell → SemLoc sig := fun | .inl i => .dma (sendS i) | .inr i => .dma (recvS i)
abbrev csem : KCell → SemLoc sig := fun | .inl _ => .reg barS | .inr o => osem o
abbrev kcell (ck : Dev nD × KCell) : GSem nD τ sig := ((ck.1 : Thread nD τ), csem ck.2)

/-! ## The memrefs -/

/-- Slot `s` of a landing buffer of three slots, as the transfer and the loads address it. -/
abbrev R384 (s : Fin 3) : Rect S3x256x384 := Rect.unit (s := S3x256x384) ![s.val, 0, 0] S1x256x384.size (by revert s; decide)
abbrev R256 (s : Fin 3) : Rect S3x256x256 := Rect.unit (s := S3x256x256) ![s.val, 0, 0] S1x256x256.size (by revert s; decide)
abbrev slot384 (b : Memref sig .tc .vmem S3x256x384 .bf16) (s : Fin 3) : Memref sig .tc .vmem S256x384 .bf16 :=
  (b.slice (R384 s) (fun _ => rfl)).squeeze S256x384 squeezes_S1x256x384_S256x384
abbrev slot256 (b : Memref sig .tc .vmem S3x256x256 .bf16) (s : Fin 3) : Memref sig .tc .vmem S256x256 .bf16 :=
  (b.slice (R256 s) (fun _ => rfl)).squeeze S256x256 squeezes_S1x256x256_S256x256

/-- What a transfer of a wide (384 columns) or a narrow (256 columns) lane adds to a semaphore. -/
def N384 : ℕ := (Memref.whole cc0_scratch0 : Memref sig .tc .vmem S256x384 .bf16).view.dmaCredit
def N256 : ℕ := (Memref.whole cc0_scratch2 : Memref sig .tc .vmem S256x256 .bf16).view.dmaCredit
theorem N384_pos : 0 < N384 := View.dmaCredit_pos _ (by decide)
theorem N256_pos : 0 < N256 := View.dmaCredit_pos _ (by decide)
def N (i : Fin 18) : ℕ := if (lane i).val % 3 = 2 then N256 else N384
theorem N_pos (i : Fin 18) : 0 < N i := by unfold N; split; exact N256_pos; exact N384_pos

/-! ## Contents -/

section Contents

abbrev V384 (F : FTy → Type) : Type := FVec F S256x384 .bf16
abbrev V256 (F : FTy → Type) : Type := FVec F S256x256 .bf16

/-- The step of the butterfly: what a device holds plus what it received. -/
def add384 (a b : V384 F) : V384 F := k0_pay41 a b
def add256 (a b : V256 F) : V256 F := shapeCast S256x256 (addf a b) shapeCasts_S256x256_S256x256

/-- The running sum of a lane: as computed, after one step, after two; the lane's first mask is `p`. -/
def run384 (A : Dev nD → V384 F) (p : Fin 3) : Fin 3 → Dev nD → V384 F
  | 0, c => A c
  | 1, c => add384 (A c) (A (flip c p))
  | 2, c => add384 (add384 (A c) (A (flip c p))) (add384 (A (flip c (p + 1))) (A (flip (flip c (p + 1)) p)))
def run256 (A : Dev nD → V256 F) (p : Fin 3) : Fin 3 → Dev nD → V256 F
  | 0, c => A c
  | 1, c => add256 (A c) (A (flip c p))
  | 2, c => add256 (add256 (A c) (A (flip c p))) (add256 (A (flip c (p + 1))) (A (flip (flip c (p + 1)) p)))

/-- The last addition, in the wider format. -/
def fin384 (a b : V384 F) : FVec F S1x256x384 .f32 :=
  shapeCast S1x256x384 (addf (extf .f32 a bitsLt_bf16_f32) (extf .f32 b bitsLt_bf16_f32)) shapeCasts_S256x384_S1x256x384
def fin256 (a b : V256 F) : FVec F S1x256x256 .f32 :=
  shapeCast S1x256x256 (addf (extf .f32 a bitsLt_bf16_f32) (extf .f32 b bitsLt_bf16_f32)) shapeCasts_S256x256_S1x256x256

end Contents

/-- A device's staged operands. -/
def xin (c : Dev nD) : (cc0_stg0_0 : Ref sig .tc).ty.Contents (Elt F) :=
  (win0_0.blk (0 : Fin 1)).view.read (Elt F) ((s₀ m ρ).mem ((c : Thread nD τ).loc main_arg0))
def wqin (c : Dev nD) : (cc0_stg1_0 : Ref sig .tc).ty.Contents (Elt F) :=
  (win0_1.blk (0 : Fin 1)).view.read (Elt F) ((s₀ m ρ).mem ((c : Thread nD τ).loc main_arg1))
def woin (c : Dev nD) : (cc0_stg2_0 : Ref sig .tc).ty.Contents (Elt F) :=
  (win0_2.blk (0 : Fin 1)).view.read (Elt F) ((s₀ m ρ).mem ((c : Thread nD τ).loc main_arg4))
def wkin (c : Dev nD) : (cc0_stg3_0 : Ref sig .tc).ty.Contents (Elt F) :=
  (win0_3.blk (0 : Fin 1)).view.read (Elt F) ((s₀ m ρ).mem ((c : Thread nD τ).loc main_arg2))
def wvin (c : Dev nD) : (cc0_stg4_0 : Ref sig .tc).ty.Contents (Elt F) :=
  (win0_4.blk (0 : Fin 1)).view.read (Elt F) ((s₀ m ρ).mem ((c : Thread nD τ).loc main_arg3))

/-- A device's projected queries (scaled), keys and values, and its output weights. -/
def qv (c : Dev nD) : FVec F S512x1024 .bf16 := k0_pay3 (xin m ρ c) (wqin m ρ c)
def kv (c : Dev nD) : FVec F S512x1024 .bf16 := k0_pay4 (xin m ρ c) (wkin m ρ c)
def vv (c : Dev nD) : FVec F S512x1024 .bf16 := k0_pay5 (xin m ρ c) (wvin m ρ c)
def wov (c : Dev nD) : FVec F S1024x1024 .bf16 := k0_pay6 (woin m ρ c)

/-- A device's partial product, rows 0 to 255 and rows 256 to 511. -/
def prod0 (c : Dev nD) : FVec F S256x1024 .bf16 :=
  k0_pay15 (qv m ρ c) (kv m ρ c) (vv m ρ c) (wov m ρ c)
    (k0_pay9 (vv m ρ c) (k0_pay7 (xin m ρ c) (wqin m ρ c) (wkin m ρ c)) (k0_pay8 (xin m ρ c) (wqin m ρ c) (wkin m ρ c)))
    (k0_pay10 (qv m ρ c) (kv m ρ c) (vv m ρ c)) (k0_pay11 (qv m ρ c) (kv m ρ c) (vv m ρ c)) (k0_pay12 (qv m ρ c) (kv m ρ c) (vv m ρ c))
    (k0_pay13 (qv m ρ c) (kv m ρ c)) (k0_pay14 (qv m ρ c) (kv m ρ c))
def prod1 (c : Dev nD) : FVec F S256x1024 .bf16 :=
  k0_pay31 (kv m ρ c) (vv m ρ c) (wov m ρ c)
    (k0_pay22 (qv m ρ c) (kv m ρ c) (vv m ρ c)) (k0_pay23 (qv m ρ c) (kv m ρ c) (vv m ρ c)) (k0_pay24 (qv m ρ c) (kv m ρ c) (vv m ρ c))
    (k0_pay26 (kv m ρ c) (vv m ρ c) (k0_pay25 (qv m ρ c)))
    (k0_pay27 (qv m ρ c) (kv m ρ c) (vv m ρ c)) (k0_pay28 (qv m ρ c) (kv m ρ c) (vv m ρ c)) (k0_pay29 (qv m ρ c) (kv m ρ c) (vv m ρ c))
    (k0_pay30 (qv m ρ c))

/-- The three column pieces of a half. -/
def cutA (P : FVec F S256x1024 .bf16) : V384 F :=
  shapeCast S256x384 (extractStridedSlice S256x384 ![0, 0] P slices_S256x1024_o0_0_S256x384) shapeCasts_S256x384_S256x384
def cutB (P : FVec F S256x1024 .bf16) : V384 F :=
  shapeCast S256x384 (extractStridedSlice S256x384 ![0, 384] P slices_S256x1024_o0_384_S256x384) shapeCasts_S256x384_S256x384
def cutC (P : FVec F S256x1024 .bf16) : V256 F :=
  shapeCast S256x256 (extractStridedSlice S256x256 ![0, 768] P slices_S256x1024_o0_768_S256x256) shapeCasts_S256x256_S256x256

/-- The running sums of the six lanes. -/
def sum0 : Fin 3 → Dev nD → V384 F := run384 (fun c => cutA (prod0 m ρ c)) 0
def sum1 : Fin 3 → Dev nD → V384 F := run384 (fun c => cutB (prod0 m ρ c)) 1
def sum2 : Fin 3 → Dev nD → V256 F := run256 (fun c => cutC (prod0 m ρ c)) 2
def sum3 : Fin 3 → Dev nD → V384 F := run384 (fun c => cutA (prod1 m ρ c)) 0
def sum4 : Fin 3 → Dev nD → V384 F := run384 (fun c => cutB (prod1 m ρ c)) 1
def sum5 : Fin 3 → Dev nD → V256 F := run256 (fun c => cutC (prod1 m ρ c)) 2

/-- The result block and the rectangles of it the six lanes fill. -/
abbrev oM : Memref sig .tc .vmem S1x512x1024 .f32 := Memref.whole cc0_stg5_0
abbrev rO0 : Rect S1x512x1024 := Rect.unit (s := S1x512x1024) ![0, 0, 0] S1x256x384.size inb_S1x512x1024_S1x256x384_0_0_0
abbrev rO1 : Rect S1x512x1024 := Rect.unit (s := S1x512x1024) ![0, 0, 384] S1x256x384.size inb_S1x512x1024_S1x256x384_0_0_384
abbrev rO2 : Rect S1x512x1024 := Rect.unit (s := S1x512x1024) ![0, 0, 768] S1x256x256.size inb_S1x512x1024_S1x256x256_0_0_768
abbrev rO3 : Rect S1x512x1024 := Rect.unit (s := S1x512x1024) ![0, 256, 0] S1x256x384.size inb_S1x512x1024_S1x256x384_0_256_0
abbrev rO4 : Rect S1x512x1024 := Rect.unit (s := S1x512x1024) ![0, 256, 384] S1x256x384.size inb_S1x512x1024_S1x256x384_0_256_384
abbrev rO5 : Rect S1x512x1024 := Rect.unit (s := S1x512x1024) ![0, 256, 768] S1x256x256.size inb_S1x512x1024_S1x256x256_0_256_768

/-- The result block overwritten, lane by lane, with the last step's sums. -/
def put (r : Rect S1x512x1024) (f : (cc0_stg5_0 : Ref sig .tc).ty.Contents (Elt F)) (w : r.shape.Idx → Elt F .f32) :
    (cc0_stg5_0 : Ref sig .tc).ty.Contents (Elt F) :=
  (oM.access r).write (Elt F) f w Finset.univ
def last0 (c : Dev nD) : FVec F S1x256x384 .f32 := fin384 (sum0 m ρ 2 c) (sum0 m ρ 2 (flip c 2))
def last1 (c : Dev nD) : FVec F S1x256x384 .f32 := fin384 (sum1 m ρ 2 c) (sum1 m ρ 2 (flip c 0))
def last2 (c : Dev nD) : FVec F S1x256x256 .f32 := fin256 (sum2 m ρ 2 c) (sum2 m ρ 2 (flip c 1))
def last3 (c : Dev nD) : FVec F S1x256x384 .f32 := fin384 (sum3 m ρ 2 c) (sum3 m ρ 2 (flip c 2))
def last4 (c : Dev nD) : FVec F S1x256x384 .f32 := fin384 (sum4 m ρ 2 c) (sum4 m ρ 2 (flip c 0))
def last5 (c : Dev nD) : FVec F S1x256x256 .f32 := fin256 (sum5 m ρ 2 c) (sum5 m ρ 2 (flip c 1))
def outFrom (f : (cc0_stg5_0 : Ref sig .tc).ty.Contents (Elt F)) (c : Dev nD) : (cc0_stg5_0 : Ref sig .tc).ty.Contents (Elt F) :=
  put rO5 (put rO4 (put rO3 (put rO2 (put rO1 (put rO0 f (last0 m ρ c)) (last1 m ρ c)) (last2 m ρ c)) (last3 m ρ c)) (last4 m ρ c)) (last5 m ρ c)
def outAt (c : Dev nD) : (cc0_stg5_0 : Ref sig .tc).ty.Contents (Elt F) := outFrom m ρ (constant S1x512x1024 .f32 0x00000000#32 : FVec F S1x512x1024 .f32) c

/-! ## Payloads -/

abbrev own (c : Dev nD) {sp : Space} {sh : Shape} {e : EltTy} (M : Memref sig .tc sp sh e) (X : sh.Idx → Elt F e) : sProp 𝕄 :=
  owns (Ix := Unit) (Name := ℕ) (U := UU) (Lvl := ℕ) (c : Thread nD τ) M fullShare X

/-- A landing slot of device `c`, at some contents. -/
def anySlot (i : Fin 18) (c : Dev nD) : sProp 𝕄 :=
  match lane i with
  | 0 => iprop(∃ X : V384 F, own c (slot384 (Memref.whole cc0_scratch6) (step i)) X)
  | 1 => iprop(∃ X : V384 F, own c (slot384 (Memref.whole cc0_scratch7) (step i)) X)
  | 2 => iprop(∃ X : V256 F, own c (slot256 (Memref.whole cc0_scratch8) (step i)) X)
  | 3 => iprop(∃ X : V384 F, own c (slot384 (Memref.whole cc0_scratch9) (step i)) X)
  | 4 => iprop(∃ X : V384 F, own c (slot384 (Memref.whole cc0_scratch10) (step i)) X)
  | 5 => iprop(∃ X : V256 F, own c (slot256 (Memref.whole cc0_scratch11) (step i)) X)

/-- What transfer `i`'s receive semaphore hands device `c`: its landing slot, holding the partner's running sum. -/
def recvPay (i : Fin 18) (c : Dev nD) : sProp 𝕄 :=
  match lane i with
  | 0 => own c (slot384 (Memref.whole cc0_scratch6) (step i)) (sum0 m ρ (step i) (peer i c))
  | 1 => own c (slot384 (Memref.whole cc0_scratch7) (step i)) (sum1 m ρ (step i) (peer i c))
  | 2 => own c (slot256 (Memref.whole cc0_scratch8) (step i)) (sum2 m ρ (step i) (peer i c))
  | 3 => own c (slot384 (Memref.whole cc0_scratch9) (step i)) (sum3 m ρ (step i) (peer i c))
  | 4 => own c (slot384 (Memref.whole cc0_scratch10) (step i)) (sum4 m ρ (step i) (peer i c))
  | 5 => own c (slot256 (Memref.whole cc0_scratch11) (step i)) (sum5 m ρ (step i) (peer i c))

/-- What its send semaphore hands back: the lane's buffer, as sent. -/
def sendPay (i : Fin 18) (c : Dev nD) : sProp 𝕄 :=
  match lane i with
  | 0 => own (F := F) c (Memref.whole cc0_scratch0) (sum0 m ρ (step i) c : V384 F)
  | 1 => own (F := F) c (Memref.whole cc0_scratch1) (sum1 m ρ (step i) c : V384 F)
  | 2 => own (F := F) c (Memref.whole cc0_scratch2) (sum2 m ρ (step i) c : V256 F)
  | 3 => own (F := F) c (Memref.whole cc0_scratch3) (sum3 m ρ (step i) c : V384 F)
  | 4 => own (F := F) c (Memref.whole cc0_scratch4) (sum4 m ρ (step i) c : V384 F)
  | 5 => own (F := F) c (Memref.whole cc0_scratch5) (sum5 m ρ (step i) c : V256 F)

/-- What the partner along mask `k` hands device `c` at the barrier: the partner's landing slots of the transfers along `k`. -/
def barPay (c : Dev nD) (k : Fin 3) : sProp 𝕄 := bigSep Finset.univ fun j : Fin 6 => anySlot (F := F) (grp (k, j)) (flip c k)

omit [FloatOps F] in
instance anySlot_storable (i : Fin 18) (c : Dev nD) : BI.Storable (upEmb : UEmb _ 𝕄) (anySlot (F := F) i c) := by
  unfold anySlot; split <;> infer_instance
instance recvPay_storable (i : Fin 18) (c : Dev nD) : BI.Storable (upEmb : UEmb _ 𝕄) (recvPay m ρ i c) := by
  unfold recvPay; split <;> infer_instance
instance sendPay_storable (i : Fin 18) (c : Dev nD) : BI.Storable (upEmb : UEmb _ 𝕄) (sendPay m ρ i c) := by
  unfold sendPay; split <;> infer_instance
omit [FloatOps F] in
instance barPay_storable (c : Dev nD) (k : Fin 3) : BI.Storable (upEmb : UEmb _ 𝕄) (barPay (F := F) c k) := by
  unfold barPay; infer_instance

/-! ## The schedule -/

/-- One round: the barrier cell has three duties of one unit, one per partner; every send and receive cell one duty of
    its lane's amount. -/
def sched : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => N (idx q)
  payload g _ d := match g.2 with
    | .reg _ => barPay g.1.1 d
    | .dma q => if q.val < 24 then sendPay m ρ (idx q) g.1.1 else recvPay m ρ (idx q) g.1.1
  amount_pos g _ _ _ := by
    rcases g with ⟨t, s | q⟩
    · exact Nat.one_pos
    · exact N_pos _

instance sched_payload_storable (g : GSem nD τ sig) (r : ℕ) (d : Fin 3) :
    BI.Storable (upEmb : UEmb _ 𝕄) ((sched (F := F) m ρ).payload g r d) := by
  rcases g with ⟨t, s | q⟩
  · show BI.Storable upEmb (barPay (F := F) t.1 d); infer_instance
  · show BI.Storable upEmb (if q.val < 24 then sendPay m ρ (idx q) t.1 else recvPay m ρ (idx q) t.1)
    split <;> infer_instance

section Sched
variable (c : Dev nD) (i : Fin 18)

theorem duties_bar : (sched (F := F) m ρ).duties (barCell c) 0 = Finset.univ := by dsimp only [sched]; exact if_pos ⟨rfl, rfl⟩
theorem duties_send : (sched (F := F) m ρ).duties (sendCell i c) 0 = {0} := by dsimp only [sched]; exact if_pos ⟨rfl, rfl⟩
theorem duties_recv : (sched (F := F) m ρ).duties (recvCell i c) 0 = {0} := by dsimp only [sched]; exact if_pos ⟨rfl, rfl⟩
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := rfl
theorem amount_send (d : Fin 3) : (sched (F := F) m ρ).amount (sendCell i c) 0 d = N i := by
  show N (idx (sendS i)) = N i; rw [idx_send]
theorem amount_recv (d : Fin 3) : (sched (F := F) m ρ).amount (recvCell i c) 0 d = N i := by
  show N (idx (recvS i)) = N i; rw [idx_recv]

theorem expect_bar : (sched (F := F) m ρ).expect (barCell c) 0 = 3 := by
  unfold Schedule.expect Schedule.amountOf
  rw [duties_bar, Finset.sum_congr rfl fun d _ => amount_bar m ρ c d]; rfl
theorem expect_send : (sched (F := F) m ρ).expect (sendCell i c) 0 = N i := by
  unfold Schedule.expect Schedule.amountOf; rw [duties_send, Finset.sum_singleton, amount_send]
theorem expect_recv : (sched (F := F) m ρ).expect (recvCell i c) 0 = N i := by
  unfold Schedule.expect Schedule.amountOf; rw [duties_recv, Finset.sum_singleton, amount_recv]

theorem payload_bar (d : Fin 3) : (sched (F := F) m ρ).payload (barCell c) 0 d = barPay c d := rfl
theorem payload_send (d : Fin 3) : (sched (F := F) m ρ).payload (sendCell i c) 0 d = sendPay m ρ i c := by
  show (if (sendS i).val < 24 then sendPay m ρ (idx (sendS i)) c else recvPay m ρ (idx (sendS i)) c) = _
  rw [if_pos (by show 6 + i.val < 24; omega), idx_send]
theorem payload_recv (d : Fin 3) : (sched (F := F) m ρ).payload (recvCell i c) 0 d = recvPay m ρ i c := by
  show (if (recvS i).val < 24 then sendPay m ρ (idx (recvS i)) c else recvPay m ρ (idx (recvS i)) c) = _
  rw [if_neg (by show ¬ 24 + i.val < 24; omega), idx_recv]

/-- The barrier round's payloads together: every landing slot the device will write, at its partners. -/
theorem rest_bar : bigSep ((sched (F := F) m ρ).duties (barCell c) 0 \ ∅) (fun d => (sched (F := F) m ρ).payload (barCell c) 0 d)
    = bigSep Finset.univ fun i : Fin 18 => anySlot (F := F) i (peer i c) := by
  rw [Finset.sdiff_empty, duties_bar, bigSep_univ_equiv grpE, bigSep_univ_prod]
  refine bigSep_congr fun k _ => ?_
  rw [payload_bar]; unfold barPay
  refine bigSep_congr fun j _ => ?_
  show anySlot (grp (k, j)) (flip c k) = anySlot (grp (k, j)) (flip c (dim (grp (k, j))))
  rw [dim_grp]
theorem rest_send : bigSep ((sched (F := F) m ρ).duties (sendCell i c) 0 \ ∅) (fun d => (sched (F := F) m ρ).payload (sendCell i c) 0 d) = sendPay m ρ i c := by
  rw [Finset.sdiff_empty, duties_send, bigSep_singleton, payload_send]
theorem rest_recv : bigSep ((sched (F := F) m ρ).duties (recvCell i c) 0 \ ∅) (fun d => (sched (F := F) m ρ).payload (recvCell i c) 0 d) = recvPay m ρ i c := by
  rw [Finset.sdiff_empty, duties_recv, bigSep_singleton, payload_recv]

end Sched

omit [FloatOps F] in
/-- A device's own landing slots, grouped by the partner that is to write them. -/
theorem slots_split (c : Dev nD) :
    (bigSep Finset.univ fun i : Fin 18 => anySlot (F := F) i c) = iprop(barPay (F := F) (flip c 0) 0 ∗ barPay (F := F) (flip c 1) 1 ∗ barPay (F := F) (flip c 2) 2) := by
  rw [bigSep_univ_equiv grpE, bigSep_univ_prod, bigSep_univ_eq_bigSepL [0, 1, 2] (by decide) (by decide)]
  show iprop(_ ∗ _ ∗ _) = _
  unfold barPay
  simp only [flip_flip]
  rfl

/-! ## What a device owes; the levels -/

/-- The order in which a device starts its transfers: step by step, within a step lane by lane. -/
def sendOrder : List (Fin 18) := [0, 3, 6, 9, 12, 15, 1, 4, 7, 10, 13, 16, 2, 5, 8, 11, 14, 17]

/-- The receive amounts still owed to the partners by the transfers not yet started. -/
def oweL (c : Dev nD) : List (Fin 18) → CellTallies nD τ sig Unit
  | [] => 0
  | i :: js => oweL c js + tallyAt (recvCell i (peer i c)) () (N i)
def O₂ (c : Dev nD) : CellTallies nD τ sig Unit := oweL c sendOrder + tallyAt (barCell (flip c 2)) () 1
def O₁ (c : Dev nD) : CellTallies nD τ sig Unit := O₂ c + tallyAt (barCell (flip c 1)) () 1
def O₀ (c : Dev nD) : CellTallies nD τ sig Unit := O₁ c + tallyAt (barCell (flip c 0)) () 1

def L (g : GSem nD τ sig) : Finset Unit := if g.1.2 = .tc then {()} else ∅
/-- The barrier at level 1, the receive cell of step `s` at `2 + s`, every other cell at 0. -/
def lv (g : GSem nD τ sig) (_ : Unit) : ℕ := match g.2 with | .reg _ => 1 | .dma q => if q.val < 24 then 0 else 2 + (step (idx q)).val

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (i : Fin 18) (c : Dev nD) : lv (recvCell i c) () = 2 + (step i).val := by
  show (if (recvS i).val < 24 then 0 else 2 + (step (idx (recvS i))).val) = _
  rw [if_neg (by show ¬ 24 + i.val < 24; omega), idx_recv]

theorem tally_pos {g g' : GSem nD τ sig} {u : Unit} {k : ℕ} (h : 0 < (tallyAt g () k : CellTallies nD τ sig Unit) g' u) : g' = g := by
  rw [tallyAt_apply] at h
  by_contra hn
  rw [if_neg fun h' => hn h'.1] at h
  exact Nat.lt_irrefl 0 h

theorem oweL_pos {c : Dev nD} {js : List (Fin 18)} {g : GSem nD τ sig} {u : Unit} (h : 0 < oweL c js g u) :
    ∃ i ∈ js, g = recvCell i (peer i c) := by
  induction js with
  | nil => exact absurd h (Nat.lt_irrefl 0)
  | cons i js ih =>
    unfold oweL at h
    rw [Pi.add_apply, Finsupp.add_apply] at h
    rcases Nat.eq_zero_or_pos (oweL c js g u) with h0 | h0
    · rw [h0, Nat.zero_add] at h
      exact ⟨i, List.mem_cons_self, tally_pos h⟩
    · obtain ⟨j, hj, e⟩ := ih h0
      exact ⟨j, List.mem_cons_of_mem _ hj, e⟩

theorem O₀_pos {c : Dev nD} {g : GSem nD τ sig} {u : Unit} (h : 0 < O₀ c g u) :
    (∃ i, g = recvCell i (peer i c)) ∨ ∃ k, g = barCell (flip c k) := by
  unfold O₀ O₁ O₂ at h
  simp only [Pi.add_apply, Finsupp.add_apply] at h
  by_cases h0 : 0 < oweL c sendOrder g u
  · obtain ⟨i, _, e⟩ := oweL_pos h0; exact .inl ⟨i, e⟩
  by_cases h2 : 0 < (tallyAt (barCell (flip c 2)) () 1 : CellTallies nD τ sig Unit) g u
  · exact .inr ⟨2, tally_pos h2⟩
  by_cases h1 : 0 < (tallyAt (barCell (flip c 1)) () 1 : CellTallies nD τ sig Unit) g u
  · exact .inr ⟨1, tally_pos h1⟩
  rw [Nat.eq_zero_of_not_pos h0, Nat.eq_zero_of_not_pos h1, Nat.eq_zero_of_not_pos h2, Nat.zero_add] at h
  exact .inr ⟨0, tally_pos h⟩

/-- Waiting at a cell while owing only the receive cells of transfers `js`: allowed if the cell lies below them. -/
theorem mayWait_oweL (c : Dev nD) (sm : SemLoc sig) (js : List (Fin 18)) (b : ℕ) (hb : lv ((c : Thread nD τ), sm) () ≤ b)
    (hjs : ∀ j ∈ js, b < 2 + (step j).val) : (levAts L lv : sProp 𝕄) ⊢ MayWait (c : Thread nD τ) sm () (oweL c js) :=
  MayOwe.of_cut (L := L) (lev := lv) b (fun p hp => by rw [Finset.mem_singleton.mp hp, L_tc]; exact Finset.mem_singleton_self _)
    (fun g u hg => by obtain ⟨i, _, rfl⟩ := oweL_pos hg; exact Finset.mem_singleton_self _)
    (fun p hp => by rw [Finset.mem_singleton.mp hp]; exact hb)
    (fun g u hg => by obtain ⟨i, hi, rfl⟩ := oweL_pos hg; rw [lv_recv]; exact hjs i hi)

theorem mayWait_stage (c : Dev nD) (q : DmaSem sig) (hq : q.val < 24) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨k, rfl⟩ <;> exact Finset.mem_singleton_self _)
      (fun p hp => by rw [Finset.mem_singleton.mp hp]; show (if q.val < 24 then 0 else _) ≤ 0; rw [if_pos hq])
      (fun g u hg => by
        rcases O₀_pos hg with ⟨i, rfl⟩ | ⟨k, rfl⟩
        · rw [lv_recv]; omega
        · rw [lv_bar]; omega)
  · rw [MayWait_zero]; iintro -; iempintro

end Cert.Exchange

end
-- ==== Proof.Steps.lean ====
/-
# One step of the exchange, at any transfer

The kernel's effects as rules over the exchange's resources, each stated once at a symbolic transfer `i` and device
`c`: reading and overwriting a whole buffer, reading a landing slot, the barrier's signals and wait, starting
transfer `i`, and the waits on its send and its receive semaphore, which close the cell waited on.
-/
module

public import proofs.«01_k».proof.Proof.Protocol
public import Idealize.ShloMosaic.Lib.VecWindow

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The weakest precondition the body's obligation is stated with. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Whole buffers and slots -/

section Buffers

variable (c : Dev nD) {s s' : Shape} {e : EltTy} (M : Memref sig .tc .vmem s e)

/-- Reading a memref at a rectangle of its own sizes. -/
theorem read_whole {off : Fin s.rank → Nat} {inb : ∀ a, off a + s.size a ≤ s.size a} (X : s.Idx → Elt F e)
    {hl : M.view.LoadsAt (Rect.unit off s.size inb).toLoadRect} {α : Type} {Q : α → sProp 𝕄} {k : (s.Idx → Elt F e) → Prog (TpuEff nD τ sig (Elt F) Λ₀ .tc) α} :
    own (F := F) c M X
      ⊢ iprop((own (F := F) c M X -∗ WP c (k X) Q) -∗ WP c (.op (.load M (Rect.unit off s.size inb).toLoadRect hl) k) Q) := by
  unfold own owns
  iintro ⟨%f, %hf, H⟩ Hk
  iapply (wp_load 𝒱₀ (c : Thread nD τ) none Set.univ (m := M) (S := M.view.set) (Finset.map_subset_map.mpr (Finset.subset_univ _))) $$ H
  iintro H
  rw [View.readAt_full, hf]
  iapply Hk
  iexists f; isplitr; · (ipureintro; exact hf)
  iexact H

/-- Reading a memref at any rectangle, nothing kept of what is read. -/
theorem read_any {r : LoadRect s} (X : s.Idx → Elt F e) {hl : M.view.LoadsAt r} {α : Type} {Q : α → sProp 𝕄} {k : (r.shape.Idx → Elt F e) → Prog (TpuEff nD τ sig (Elt F) Λ₀ .tc) α} :
    own (F := F) c M X ⊢ iprop((∀ v, own (F := F) c M X -∗ WP c (k v) Q) -∗ WP c (.op (.load M r hl) k) Q) := by
  unfold own owns
  iintro ⟨%f, %hf, H⟩ Hk
  iapply (wp_load 𝒱₀ (c : Thread nD τ) none Set.univ (m := M) (S := M.view.set) (Finset.map_subset_map.mpr (Finset.subset_univ _))) $$ H
  iintro H
  iapply Hk
  iexists f; isplitr; · (ipureintro; exact hf)
  iexact H

/-- Overwriting a memref at a rectangle of its own sizes. -/
theorem write_whole {off : Fin s.rank → Nat} {inb : ∀ a, off a + s.size a ≤ s.size a} (X Y : s.Idx → Elt F e)
    {w : s.Idx → Elt F e} (hw : w = Y)
    {hx : (M.access (Rect.unit off s.size inb)).Stores Finset.univ}
    {hm : (Finset.univ : Finset (Rect.unit off s.size inb).shape.Idx) = Finset.univ ∨ ∀ a, (Rect.unit off s.size inb).stride a = 1}
    {α : Type} {Q : α → sProp 𝕄} {k : PUnit → Prog (TpuEff nD τ sig (Elt F) Λ₀ .tc) α} :
    own (F := F) c M X
      ⊢ iprop((own (F := F) c M Y -∗ WP c (k ⟨⟩) Q) -∗ WP c (.op (.store M (Rect.unit off s.size inb) w Finset.univ hx hm) k) Q) := by
  subst hw
  unfold own owns
  iintro ⟨%f, %hf, H⟩ Hk
  iapply (wp_store 𝒱₀ (c : Thread nD τ) none Set.univ (m := M) (r := Rect.unit off s.size inb) (Mk := Finset.univ) (S := M.view.set) (M.view.set_slice_subset _)) $$ H
  iintro H
  iapply Hk
  iexists _; isplitr
  swap; · iexact H
  ipureintro; exact View.read_writes_full M.view f inb w []

/-- Overwriting a rectangle of the result block. -/
theorem write_put (r : Rect S1x512x1024) (X : (cc0_stg5_0 : Ref sig .tc).ty.Contents (Elt F)) (Y : r.shape.Idx → Elt F .f32)
    {w : r.shape.Idx → Elt F .f32} (hw : w = Y)
    {hx : (oM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    own (F := F) c oM X
      ⊢ iprop((own (F := F) c oM (put r X Y) -∗ WP c (k ⟨⟩) Q) -∗ WP c (.op (.store oM r w Finset.univ hx hm) k) Q) := by
  subst hw
  unfold own owns
  iintro ⟨%f, %hf, H⟩ Hk
  iapply (wp_store 𝒱₀ (c : Thread nD τ) none Set.univ (m := oM) (r := r) (Mk := Finset.univ) (S := oM.view.set) (oM.view.set_slice_subset _)) $$ H
  iintro H
  iapply Hk
  rw [show f = X from hf]
  iexists _; isplitr
  swap; · iexact H
  ipureintro; rfl

/-- Reading a slot through the buffer it is a slice of: what is read, its leading axis dropped, is the slot's contents. -/
theorem read_slot (r : Rect s) (hr : ∀ a, r.stride a = 1) (hq : r.shape.Squeezes s') (hc : r.shape.ShapeCasts s') (X : s'.Idx → Elt F e)
    {hl : M.view.LoadsAt r.toLoadRect} {α : Type} {Q : α → sProp 𝕄} {k : (r.shape.Idx → Elt F e) → Prog (TpuEff nD τ sig (Elt F) Λ₀ .tc) α} :
    own (F := F) c ((M.slice r hr).squeeze s' hq) X
      ⊢ iprop((∀ v : r.shape.Idx → Elt F e, ⌜shapeCast s' v hc = X⌝ -∗ own (F := F) c ((M.slice r hr).squeeze s' hq) X -∗ WP c (k v) Q)
        -∗ WP c (.op (.load M r.toLoadRect hl) k) Q) := by
  unfold own owns
  iintro ⟨%f, %hf, H⟩ Hk
  iapply (wp_load 𝒱₀ (c : Thread nD τ) none Set.univ (m := M)
    (S := ((M.slice r hr).squeeze s' hq).view.set) (by rw [Memref.set_view_squeeze]; exact (View.set_slice _ _).symm.subset)) $$ H
  iintro H
  iapply Hk
  · ipureintro; exact hf
  iexists f; isplitr; · (ipureintro; exact hf)
  iexact H

end Buffers

/-- What an addition step stores, the received slot read with its leading axis. -/
theorem add384_of {w a X : V384 F} {v : FVec F S1x256x384 .bf16} (hv : shapeCast S256x384 v shapeCasts_S1x256x384_S256x384 = X)
    (hw : w = add384 a (shapeCast S256x384 v shapeCasts_S1x256x384_S256x384)) : w = add384 a X := hv ▸ hw
theorem add256_of {w a X : V256 F} {v : FVec F S1x256x256 .bf16} (hv : shapeCast S256x256 v shapeCasts_S1x256x256_S256x256 = X)
    (hw : w = add256 a (shapeCast S256x256 v shapeCasts_S1x256x256_S256x256)) : w = add256 a X := hv ▸ hw
theorem fin384_of {w : FVec F S1x256x384 .f32} {a X : V384 F} {v : FVec F S1x256x384 .bf16} (hv : shapeCast S256x384 v shapeCasts_S1x256x384_S256x384 = X)
    (hw : w = fin384 a (shapeCast S256x384 v shapeCasts_S1x256x384_S256x384)) : w = fin384 a X := hv ▸ hw
theorem fin256_of {w : FVec F S1x256x256 .f32} {a X : V256 F} {v : FVec F S1x256x256 .bf16} (hv : shapeCast S256x256 v shapeCasts_S1x256x256_S256x256 = X)
    (hw : w = fin256 a (shapeCast S256x256 v shapeCasts_S1x256x256_S256x256)) : w = fin256 a X := hv ▸ hw

/-- A lane's slot is one of the landing slots. -/
theorem slot_any {c : Dev nD} {i : Fin 18} {s : Shape} {M : Memref sig .tc .vmem s .bf16} (hA : anySlot (F := F) i c = iprop(∃ Y : s.Idx → Elt F .bf16, own c M Y))
    (Y : s.Idx → Elt F .bf16) : own (F := F) c M Y ⊢ anySlot (F := F) i c := by
  rw [hA]; iintro H; iexists Y; iexact H

/-! ## What every device knows -/

section World

variable (K : Dev nD × KCell → ℕ)

/-- Every cell's invariant, every cell at its first round, and the levels. -/
def world : sProp 𝕄 :=
  iprop((bigSep Finset.univ fun ck => cellInv ER (sched m ρ) (K ck) (kcell ck)) ∗ (bigSep Finset.univ fun ck => reached ER (kcell ck) 0) ∗ levAts L lv)

instance world_persistent : BI.Persistent (world m ρ K) := by unfold world; infer_instance

theorem world_inv (ck : Dev nD × KCell) : world m ρ K ⊢ cellInv ER (sched m ρ) (K ck) (kcell ck) := by
  unfold world; iintro ⟨H, -, -⟩
  iapply (show (bigSep Finset.univ fun ck => cellInv ER (sched m ρ) (K ck) (kcell ck)) ⊢ cellInv ER (sched m ρ) (K ck) (kcell ck) from bigSep_elim (Finset.mem_univ ck))
  iexact H
theorem world_reached (ck : Dev nD × KCell) : world m ρ K ⊢ reached ER (kcell ck) 0 := by
  unfold world; iintro ⟨-, H, -⟩
  iapply (show (bigSep Finset.univ fun ck => (reached ER (kcell ck) 0 : sProp 𝕄)) ⊢ reached ER (kcell ck) 0 from bigSep_elim (Finset.mem_univ ck))
  iexact H
theorem world_lev : world m ρ K ⊢ levAts L lv := by
  unfold world; iintro ⟨-, -, H⟩; iexact H

/-- What a device owes, whatever waits it has recorded. -/
def owesAny (c : Dev nD) (O : CellTallies nD τ sig Unit) : sProp 𝕄 := iprop(∃ W, owes (c : Thread nD τ) O W)

/-! ## The barrier -/

/-- Raising the barrier of the partner along mask `k`, handing over the landing slots it will write. -/
theorem signal (c n : Dev nD) (k : Fin 3) (hn : n = flip c k) (O O' : CellTallies nD τ sig Unit) (hO : O = O' + tallyAt (barCell (flip c k)) () 1)
    {sm : Sem sig} (hs : sm = barS) {a : ℕ} (ha : a = 1)
    {α : Type} {Q : α → sProp 𝕄} {kk : PUnit → Prog (TpuEff nD τ sig (Elt F) Λ₀ .tc) α} :
    world m ρ K ⊢ iprop(owesAny (F := F) c O -∗ dutyTok ER (barCell (flip c k)) 0 k -∗ barPay (F := F) (flip c k) k
      -∗ (owesAny (F := F) c O' -∗ WP c (kk ⟨⟩) Q) -∗ WP c (.op (.semSignal (Dev.tc n : Thread nD τ) sm a) kk) Q) := by
  subst hn hs ha
  unfold owesAny
  iintro #HW ⟨%W, HO⟩ Ht Hp Hk
  iapply (Rounds.wp_signal 𝒱₀ ER (sched m ρ) (c : Thread nD τ) none (dst := (flip c k : Thread nD τ)) (κ := K (flip c k, .inl ()))
      (d := k) (by rw [duties_bar]; exact Finset.mem_univ _) (amount_bar m ρ (flip c k) k) () O' hO) $$ [HO Ht Hp]
  · isplitr; · (iapply (world_inv m ρ K (flip c k, .inl ())); iexact HW)
    isplitl [HO]; · iexact HO
    isplitl [Ht]; · iexact Ht
    isplitl [Hp]; · (rw [payload_bar]; iexact Hp)
    iapply (world_reached m ρ K (flip c k, .inl ())); iexact HW
  iintro HO
  iapply Hk; iexists W; iexact HO

/-- Waiting for the three partners: every landing slot the device will write, and the cell closed. -/
theorem barrier (c : Dev nD) (js : List (Fin 18)) {sm : Sem sig} (hs : sm = barS) {a : ℕ} (ha : a = 3)
    {α : Type} {Q : α → sProp 𝕄} {kk : PUnit → Prog (TpuEff nD τ sig (Elt F) Λ₀ .tc) α} :
    world m ρ K ⊢ iprop(owesAny (F := F) c (oweL c js) -∗ cred (tallyAt (barCell c) () 3) -∗ atPos ER (barCell c) 0 ∅ 0
      -∗ ((owesAny (F := F) c (oweL c js) ∗ (bigSep Finset.univ fun i : Fin 18 => anySlot (F := F) i (peer i c)) ∗ semVal (barCell c) 0) -∗ WP c (kk ⟨⟩) Q)
      -∗ WP c (.op (.semWait sm a) kk) Q) := by
  subst hs ha
  unfold owesAny
  iintro #HW ⟨%W, HO⟩ Hc Hat Hk
  iapply (Rounds.wp_wait_rest_token 𝒱₀ ER (sched m ρ) (c : Thread nD τ) none (κ := K (c, .inl ()))
      (wpE_semWait_eq 𝒱₀ (c : Thread nD τ) none Set.univ) (Set.mem_univ _) () (O := oweL c js) (W := W) (R := 0) (m := 0) (T := ∅)
      (by rw [expect_bar])) $$ [Hc HO Hat]
  · isplitr; · (iapply (world_inv m ρ K (c, .inl ())); iexact HW)
    isplitl [Hc]; · iexact Hc
    isplitl [HO]; · iexact HO
    isplitr
    · iapply (mayWait_oweL (F := F) c (.reg barS) js 1 (le_of_eq (lv_bar c)) fun j _ => by omega); iapply (world_lev m ρ K); iexact HW
    iexact Hat
  iintro ⟨HO, Hat, -, Hp⟩
  ihave Hp := (Entails.of_eq (rest_bar m ρ c)) $$ Hp
  imod (Rounds.cell_close ER (sched m ρ) (Set.mem_univ (K (c, .inl ()))) (fun h => h) (R := 0 + 1) (duties_later m ρ (barCell c))) $$ [Hat] with Hz
  · isplitr; · (iapply (world_inv m ρ K (c, .inl ())); iexact HW)
    iexact Hat
  iapply Hk
  isplitl [HO]; · (iexists _; iexact HO)
  isplitl [Hp]; · iexact Hp
  iexact Hz

/-! ## One transfer -/

/-- What a device holds of transfer `i` before it: both cells' positions, the tokens of the two raises, its own receive credit. -/
def kit (i : Fin 18) (c : Dev nD) : sProp 𝕄 :=
  iprop(atPos ER (sendCell i c) 0 ∅ 0 ∗ atPos ER (recvCell i c) 0 ∅ 0 ∗ dutyTok ER (sendCell i c) 0 0 ∗ dutyTok ER (recvCell i (peer i c)) 0 0
    ∗ cred (tallyAt (recvCell i c) () (N i)))
/-- With the partner's landing slot. -/
def ready (i : Fin 18) (c : Dev nD) : sProp 𝕄 := iprop(kit (F := F) i c ∗ anySlot (F := F) i (peer i c))
/-- After its start, -/
def fly (i : Fin 18) (c : Dev nD) : sProp 𝕄 :=
  iprop(atPos ER (sendCell i c) 0 ∅ 0 ∗ atPos ER (recvCell i c) 0 ∅ 0 ∗ cred (tallyAt (sendCell i c) () (N i)) ∗ cred (tallyAt (recvCell i c) () (N i)))
/-- after the wait on the send semaphore, -/
def sent (i : Fin 18) (c : Dev nD) : sProp 𝕄 :=
  iprop(semVal (sendCell i c) 0 ∗ atPos ER (recvCell i c) 0 ∅ 0 ∗ cred (tallyAt (recvCell i c) () (N i)))
/-- and after the wait on the receive semaphore: both counters at zero. -/
def fin (i : Fin 18) (c : Dev nD) : sProp 𝕄 := iprop(semVal (sendCell i c) 0 ∗ semVal (recvCell i c) 0)

section Transfer

variable (i : Fin 18) (c : Dev nD) (js : List (Fin 18)) {s : Shape}

/-- Starting transfer `i`: the lane's buffer goes out, the partner's landing slot with it. -/
theorem xfer (js' : List (Fin 18)) (hj : js = i :: js') (n : Dev nD) (hn : n = peer i c) (src dst : Memref sig .tc .vmem s .bf16) (X : s.Idx → Elt F .bf16)
    (hS : sendPay m ρ i c = own c src X) (hR : recvPay m ρ i (peer i c) = own (peer i c) dst X)
    (hA : anySlot (F := F) i (peer i c) = iprop(∃ Y : s.Idx → Elt F .bf16, own (peer i c) dst Y))
    (hN : dst.view.dmaCredit = N i) {qs qr : DmaSem sig} (hs : qs = sendS i) (hr : qr = recvS i)
    {hsc : (dst : Memref sig (Dev.tc n : Thread nD τ).2.kind .vmem s .bf16).view.ref.isScScratch = false}
    {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α} :
    world m ρ K ⊢ iprop(owesAny (F := F) c (oweL c js) -∗ ready (F := F) i c -∗ own (F := F) c src X
      -∗ ((owesAny (F := F) c (oweL c js') ∗ fly (F := F) i c) -∗ WP c (k ⟨⟩) Q)
      -∗ WP c (.op (.enqueueDma src (.remote (Dev.tc n : Thread nD τ) dst (.dma qs) hsc) (.dma qr) hsrc hdst hsem) k) Q) := by
  subst hj hn hs hr
  unfold ready; rw [hA]
  unfold kit own owns
  unfold owesAny
  iintro #HW ⟨%W, HO⟩ ⟨⟨Has, Har, Hts, Htr, Hcr⟩, %Y, %fd, %hfd, Hd⟩ ⟨%fs, %hfs, Hs⟩ Hk
  have hp₁ : (src.view.loc (c : Thread nD τ) ↦[src.view.set]{fullShare} fs) ⊢ (sched m ρ).payload (sendCell i c) 0 0 := by
    rw [payload_send, hS]; subst hfs; exact owns_intro _ _ _ _
  have hp₂ : (dst.view.loc (peer i c : Thread nD τ) ↦[dst.view.set]{fullShare} (dst.view.write (Elt F) fd (src.view.read (Elt F) fs) Finset.univ))
      ⊢ (sched m ρ).payload (recvCell i (peer i c)) 0 0 := by
    rw [payload_recv, hR]; subst hfs
    refine (owns_intro (Ix := Unit) (Name := ℕ) (U := UU) (Lvl := ℕ) (peer i c : Thread nD τ) dst fullShare _).trans (Entails.of_eq ?_)
    rw [View.read_write_univ]
  have hd₁ : (0 : Fin 3) ∈ (sched m ρ).duties (sendCell i c) 0 := by rw [duties_send]; exact Finset.mem_singleton_self _
  have hd₂ : (0 : Fin 3) ∈ (sched m ρ).duties (recvCell i (peer i c)) 0 := by rw [duties_recv]; exact Finset.mem_singleton_self _
  iapply (Rounds.wp_send_pointsTo 𝒱₀ ER (sched m ρ) (c : Thread nD τ) none (κ₁ := K (c, .inr (.inl i))) (κ₂ := K (peer i c, .inr (.inr i)))
    (c' := (peer i c : Thread nD τ)) (src := src) (dst := dst) (sem := .dma (recvS i)) (sS := .dma (sendS i)) (hsc := hsc) (hsrc := hsrc) (hdst := hdst) (hsem := hsem)
    (fs := fs) (fd := fd) (q := fullShare) hd₁ hd₂ () () (N i) hN (amount_send m ρ c i 0) (amount_recv m ρ (peer i c) i 0) (oweL c js')
    (O₀ := oweL c (i :: js')) rfl (W := W) hp₁ hp₂) $$ [Hs Hd HO Hts Htr]
  · isplitr; · (iapply (world_inv m ρ K (c, .inr (.inl i))); iexact HW)
    isplitr; · (iapply (world_inv m ρ K (peer i c, .inr (.inr i))); iexact HW)
    isplitl [Hs]; · iexact Hs
    isplitl [Hd]; · iexact Hd
    isplitl [HO]; · iexact HO
    isplitl [Hts]; · iexact Hts
    isplitr; · (iapply (world_reached m ρ K (c, .inr (.inl i))); iexact HW)
    isplitl [Htr]; · iexact Htr
    iapply (world_reached m ρ K (peer i c, .inr (.inr i))); iexact HW
  iintro ⟨Hcs, HO⟩
  iapply Hk
  isplitl [HO]; · (iexists _; iexact HO)
  unfold fly
  isplitl [Has]; · iexact Has
  isplitl [Har]; · iexact Har
  isplitl [Hcs] <;> iassumption

/-- The wait on the send semaphore: the lane's buffer back, as sent. -/
theorem wait_send (dst : Memref sig .tc .vmem s .bf16) (X : s.Idx → Elt F .bf16) (hP : sendPay m ρ i c = own c dst X)
    {sp' : Space} {s' : Shape} {e' : EltTy} {src : Memref sig .tc sp' s' e'}
    (hN : dst.view.dmaCredit = N i) {q : DmaSem sig} (hs : q = sendS i)
    {hsrc : src.view.WordExact} {hdst : dst.view.WordExact} (hjs : ∀ j ∈ js, 0 < 2 + (step j).val := by exact fun _ _ => Nat.lt_of_lt_of_le Nat.two_pos (Nat.le_add_right _ _))
    {α : Type} {Q : α → sProp 𝕄} {k : PUnit → Prog (TpuEff nD τ sig (Elt F) Λ₀ .tc) α} :
    world m ρ K ⊢ iprop(owesAny (F := F) c (oweL c js) -∗ fly (F := F) i c
      -∗ ((owesAny (F := F) c (oweL c js) ∗ sent (F := F) i c ∗ own c dst X) -∗ WP c (k ⟨⟩) Q)
      -∗ WP c (.op (.waitDma2 q src dst hsrc hdst) k) Q) := by
  rw [← hP]; subst hs
  unfold fly
  unfold owesAny
  iintro #HW ⟨%W, HO⟩ ⟨Has, Har, Hcs, Hcr⟩ Hk
  iapply (Rounds.wp_wait_rest_token 𝒱₀ ER (sched m ρ) (c : Thread nD τ) none (κ := K (c, .inr (.inl i)))
      (wpE_waitDma2_eq 𝒱₀ (c : Thread nD τ) none Set.univ) (Set.mem_univ _) () (O := oweL c js) (W := W) (R := 0) (m := 0) (T := ∅)
      (by rw [Nat.zero_add, expect_send, hN])) $$ [Hcs HO Has]
  · isplitr; · (iapply (world_inv m ρ K (c, .inr (.inl i))); iexact HW)
    isplitl [Hcs]; · (rw [hN]; iexact Hcs)
    isplitl [HO]; · iexact HO
    isplitr
    · iapply (mayWait_oweL (F := F) c (.dma (sendS i)) js 0 (le_of_eq (if_pos (by show 6 + i.val < 24; omega))) hjs)
      iapply (world_lev m ρ K); iexact HW
    iexact Has
  iintro ⟨HO, Has, -, Hp⟩
  ihave Hp := (Entails.of_eq (rest_send m ρ c i)) $$ Hp
  imod (Rounds.cell_close ER (sched m ρ) (Set.mem_univ (K (c, .inr (.inl i)))) (fun h => h) (R := 0 + 1) (duties_later m ρ (sendCell i c))) $$ [Has] with Hz
  · isplitr; · (iapply (world_inv m ρ K (c, .inr (.inl i))); iexact HW)
    iexact Has
  iapply Hk
  isplitl [HO]; · (iexists _; iexact HO)
  isplitr [Hp]
  · unfold sent; isplitl [Hz]; · iexact Hz
    isplitl [Har] <;> iassumption
  iexact Hp

/-- The wait on the receive semaphore: the landing slot, the partner's running sum in it. -/
theorem wait_recv (dst : Memref sig .tc .vmem s .bf16) (X : s.Idx → Elt F .bf16) (hP : recvPay m ρ i c = own c dst X)
    {sp' : Space} {s' : Shape} {e' : EltTy} {src : Memref sig .tc sp' s' e'}
    (hN : dst.view.dmaCredit = N i) {q : DmaSem sig} (hs : q = recvS i)
    {hsrc : src.view.WordExact} {hdst : dst.view.WordExact} (hjs : ∀ j ∈ js, (step i).val < (step j).val)
    {α : Type} {Q : α → sProp 𝕄} {k : PUnit → Prog (TpuEff nD τ sig (Elt F) Λ₀ .tc) α} :
    world m ρ K ⊢ iprop(owesAny (F := F) c (oweL c js) -∗ sent (F := F) i c
      -∗ ((owesAny (F := F) c (oweL c js) ∗ fin (F := F) i c ∗ own c dst X) -∗ WP c (k ⟨⟩) Q)
      -∗ WP c (.op (.waitDma2 q src dst hsrc hdst) k) Q) := by
  rw [← hP]; subst hs
  unfold sent
  unfold owesAny
  iintro #HW ⟨%W, HO⟩ ⟨Hz0, Har, Hcr⟩ Hk
  iapply (Rounds.wp_wait_rest_token 𝒱₀ ER (sched m ρ) (c : Thread nD τ) none (κ := K (c, .inr (.inr i)))
      (wpE_waitDma2_eq 𝒱₀ (c : Thread nD τ) none Set.univ) (Set.mem_univ _) () (O := oweL c js) (W := W) (R := 0) (m := 0) (T := ∅)
      (by rw [Nat.zero_add, expect_recv, hN])) $$ [Hcr HO Har]
  · isplitr; · (iapply (world_inv m ρ K (c, .inr (.inr i))); iexact HW)
    isplitl [Hcr]; · (rw [hN]; iexact Hcr)
    isplitl [HO]; · iexact HO
    isplitr
    · iapply (mayWait_oweL (F := F) c (.dma (recvS i)) js (2 + (step i).val) (le_of_eq (lv_recv i c)) fun j hj => Nat.add_lt_add_left (hjs j hj) 2)
      iapply (world_lev m ρ K); iexact HW
    iexact Har
  iintro ⟨HO, Har, -, Hp⟩
  ihave Hp := (Entails.of_eq (rest_recv m ρ c i)) $$ Hp
  imod (Rounds.cell_close ER (sched m ρ) (Set.mem_univ (K (c, .inr (.inr i)))) (fun h => h) (R := 0 + 1) (duties_later m ρ (recvCell i c))) $$ [Har] with Hz
  · isplitr; · (iapply (world_inv m ρ K (c, .inr (.inr i))); iexact HW)
    iexact Har
  iapply Hk
  isplitl [HO]; · (iexists _; iexact HO)
  isplitr [Hp]
  · unfold fin; isplitl [Hz0]; · iexact Hz0
    iexact Hz
  iexact Hp

/-- A transfer over and done: both counters at zero, the landing slot the device's again. -/
def over (i : Fin 18) (c : Dev nD) : sProp 𝕄 := iprop(fin (F := F) i c ∗ anySlot (F := F) i c)

/-- The end of a step but the last: both waits, the received slot added to the lane's buffer. -/
theorem fold (b : Memref sig .tc .vmem s .bf16) {S : Shape} (B : Memref sig .tc .vmem S .bf16) (r : Rect S) (hr : ∀ a, r.stride a = 1)
    (hq : r.shape.Squeezes s) (hc : r.shape.ShapeCasts s) (X Y Z : s.Idx → Elt F .bf16)
    (hS : sendPay m ρ i c = own c b X) (hR : recvPay m ρ i c = own c ((B.slice r hr).squeeze s hq) Y)
    (hA : own c ((B.slice r hr).squeeze s hq) Y ⊢ anySlot (F := F) i c)
    (hN : b.view.dmaCredit = N i) (hN' : ((B.slice r hr).squeeze s hq).view.dmaCredit = N i)
    (hjs : ∀ j ∈ js, (step i).val < (step j).val)
    {qs qr : DmaSem sig} (hs : qs = sendS i) (hv : qr = recvS i)
    {w : (s.Idx → Elt F .bf16) → (r.shape.Idx → Elt F .bf16) → (s.Idx → Elt F .bf16)} (hw : ∀ v, shapeCast s v hc = Y → w X v = Z)
    {h₁ h₁' h₂ h₂'} {off : Fin s.rank → Nat} {inb : ∀ a, off a + s.size a ≤ s.size a} {hl hl' hl'' hx hm}
    {α : Type} {Q : α → sProp 𝕄} {k : Prog (TpuEff nD τ sig (Elt F) Λ₀ .tc) α} :
    world m ρ K ⊢ iprop(owesAny (F := F) c (oweL c js) -∗ fly (F := F) i c
      -∗ ((owesAny (F := F) c (oweL c js) ∗ over (F := F) i c ∗ own c b Z) -∗ WP c k Q)
      -∗ WP c (.op (.waitDma2 qs ((B.slice r hr).squeeze s hq) b h₁ h₁') fun _ => .op (.waitDma2 qr b ((B.slice r hr).squeeze s hq) h₂ h₂') fun _ =>
          .op (.load b (Rect.unit off s.size inb).toLoadRect hl) fun a => .op (.load B r.toLoadRect hl') fun v =>
          .op (.load b (Rect.unit off s.size inb).toLoadRect hl'') fun _ => .op (.store b (Rect.unit off s.size inb) (w a v) Finset.univ hx hm) fun _ => k) Q) := by
  iintro #HW HO Hf Hk
  iapply (wait_send m ρ K i c js b X hS hN hs) $$ HW HO Hf
  iintro ⟨HO, Hf, Hb⟩
  iapply (wait_recv m ρ K i c js ((B.slice r hr).squeeze s hq) Y hR hN' hv hjs) $$ HW HO Hf
  iintro ⟨HO, Hf, Hs⟩
  iapply (read_whole c b X) $$ Hb
  iintro Hb
  iapply (read_slot c B r hr hq hc Y) $$ Hs
  iintro %v %hv Hs
  iapply (read_whole c b X) $$ Hb
  iintro Hb
  iapply (write_whole c b X Z (hw v hv)) $$ Hb
  iintro Hb
  iapply Hk
  isplitl [HO]; · iexact HO
  isplitr [Hb]
  · unfold over; isplitl [Hf]; · iexact Hf
    iapply hA; iexact Hs
  iexact Hb

/-- The end of the last step: both waits, the received slot added to the lane's buffer into the result block. -/
theorem finish (b : Memref sig .tc .vmem s .bf16) {S : Shape} (B : Memref sig .tc .vmem S .bf16) (r : Rect S) (hr : ∀ a, r.stride a = 1)
    (hq : r.shape.Squeezes s) (hc : r.shape.ShapeCasts s) (X Y : s.Idx → Elt F .bf16)
    (hS : sendPay m ρ i c = own c b X) (hR : recvPay m ρ i c = own c ((B.slice r hr).squeeze s hq) Y)
    (hA : own c ((B.slice r hr).squeeze s hq) Y ⊢ anySlot (F := F) i c)
    (hN : b.view.dmaCredit = N i) (hN' : ((B.slice r hr).squeeze s hq).view.dmaCredit = N i)
    {qs qr : DmaSem sig} (hs : qs = sendS i) (hv : qr = recvS i)
    (ro : Rect S1x512x1024) (f : (cc0_stg5_0 : Ref sig .tc).ty.Contents (Elt F)) (Z : ro.shape.Idx → Elt F .f32)
    {w : (s.Idx → Elt F .bf16) → (r.shape.Idx → Elt F .bf16) → (ro.shape.Idx → Elt F .f32)} (hw : ∀ v, shapeCast s v hc = Y → w X v = Z)
    {h₁ h₁' h₂ h₂'} {off : Fin s.rank → Nat} {inb : ∀ a, off a + s.size a ≤ s.size a} {hl hl' hl'' hx hm}
    {α : Type} {Q : α → sProp 𝕄} {k : Prog (TpuEff nD τ sig (Elt F) Λ₀ .tc) α} :
    world m ρ K ⊢ iprop(owesAny (F := F) c (oweL c []) -∗ fly (F := F) i c -∗ own c oM f
      -∗ ((owesAny (F := F) c (oweL c []) ∗ over (F := F) i c ∗ own c b X ∗ own c oM (put ro f Z)) -∗ WP c k Q)
      -∗ WP c (.op (.waitDma2 qs ((B.slice r hr).squeeze s hq) b h₁ h₁') fun _ => .op (.waitDma2 qr b ((B.slice r hr).squeeze s hq) h₂ h₂') fun _ =>
          .op (.load b (Rect.unit off s.size inb).toLoadRect hl) fun a => .op (.load B r.toLoadRect hl') fun v =>
          .op (.load oM ro.toLoadRect hl'') fun _ => .op (.store oM ro (w a v) Finset.univ hx hm) fun _ => k) Q) := by
  iintro #HW HO Hf Ho Hk
  iapply (wait_send m ρ K i c [] b X hS hN hs) $$ HW HO Hf
  iintro ⟨HO, Hf, Hb⟩
  iapply (wait_recv m ρ K i c [] ((B.slice r hr).squeeze s hq) Y hR hN' hv (fun _ h => absurd h List.not_mem_nil)) $$ HW HO Hf
  iintro ⟨HO, Hf, Hs⟩
  iapply (read_whole c b X) $$ Hb
  iintro Hb
  iapply (read_slot c B r hr hq hc Y) $$ Hs
  iintro %v %hv Hs
  iapply (read_any c oM f) $$ Ho
  iintro %_ Ho
  iapply (write_put c ro f Z (hw v hv)) $$ Ho
  iintro Ho
  iapply Hk
  isplitl [HO]; · iexact HO
  isplitr [Hb Ho]
  · unfold over; isplitl [Hf]; · iexact Hf
    iapply hA; iexact Hs
  isplitl [Hb]; · iexact Hb
  iexact Ho

end Transfer

end World

end Cert.Exchange

end
-- ==== Proof.Parts.lean ====
/-
# The kernel's parts at the launch's buffers

What the runs of the kernel's parts (Proof/Head.lean, Middle.lean, Ending.lean) share: the buffers, who each
transfer is addressed to, which transfers are still to be started.
-/
module

public import proofs.«01_k».proof.Proof.Steps

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A function of the kernel's buffers, at the launch's buffers. -/
abbrev onBufs {α : Type 1} (p : (arg0 : Memref sig .tc .vmem S1x512x1024 .bf16) → arg0.IsWhole → (arg1 : Memref sig .tc .vmem S1024x1024 .bf16) → arg1.IsWhole → (arg2 : Memref sig
    .tc .vmem S1024x1024 .bf16) → arg2.IsWhole → (arg3 : Memref sig .tc .vmem S1024x1024 .bf16) → arg3.IsWhole → (arg4 : Memref sig .tc .vmem S1024x1024
    .bf16) → arg4.IsWhole → (arg5 : Memref sig .tc .vmem S1x512x1024 .f32) → arg5.IsWhole → (arg6 : Memref sig .tc .vmem S256x384 .bf16) → arg6.IsWhole →
    (arg7 : Memref sig .tc .vmem S256x384 .bf16) → arg7.IsWhole → (arg8 : Memref sig .tc .vmem S256x256 .bf16) → arg8.IsWhole → (arg9 : Memref sig .tc
    .vmem S256x384 .bf16) → arg9.IsWhole → (arg10 : Memref sig .tc .vmem S256x384 .bf16) → arg10.IsWhole → (arg11 : Memref sig .tc .vmem S256x256 .bf16) →
    arg11.IsWhole → (arg12 : Memref sig .tc .vmem S3x256x384 .bf16) → arg12.IsWhole → (arg13 : Memref sig .tc .vmem S3x256x384 .bf16) → arg13.IsWhole →
    (arg14 : Memref sig .tc .vmem S3x256x256 .bf16) → arg14.IsWhole → (arg15 : Memref sig .tc .vmem S3x256x384 .bf16) → arg15.IsWhole → (arg16 : Memref
    sig .tc .vmem S3x256x384 .bf16) → arg16.IsWhole → (arg17 : Memref sig .tc .vmem S3x256x256 .bf16) → arg17.IsWhole → DmaSems sig S2x3x3 → DmaSems sig
    S2x3x3 → α) : α :=
  p (Memref.whole cc0_stg0_0) (Memref.isWhole_whole _) (Memref.whole cc0_stg1_0) (Memref.isWhole_whole _) (Memref.whole cc0_stg2_0) (Memref.isWhole_whole
    _) (Memref.whole cc0_stg3_0) (Memref.isWhole_whole _) (Memref.whole cc0_stg4_0) (Memref.isWhole_whole _) (Memref.whole cc0_stg5_0)
    (Memref.isWhole_whole _) (Memref.whole cc0_scratch0) (Memref.isWhole_whole _) (Memref.whole cc0_scratch1) (Memref.isWhole_whole _) (Memref.whole
    cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7)
    (Memref.isWhole_whole _) (Memref.whole cc0_scratch8) (Memref.isWhole_whole _) (Memref.whole cc0_scratch9) (Memref.isWhole_whole _) (Memref.whole
    cc0_scratch10) (Memref.isWhole_whole _) (Memref.whole cc0_scratch11) (Memref.isWhole_whole _) cc0_scratch12 cc0_scratch13

/-- The transfers not among the first `n` started. -/
abbrev left (n : ℕ) : List (Fin 18) := sendOrder.drop n

/-! ## The lanes' buffers -/

abbrev buf0 (c : Dev nD) (X : V384 F) : sProp 𝕄 := own c (Memref.whole cc0_scratch0) X
abbrev buf1 (c : Dev nD) (X : V384 F) : sProp 𝕄 := own c (Memref.whole cc0_scratch1) X
abbrev buf2 (c : Dev nD) (X : V256 F) : sProp 𝕄 := own c (Memref.whole cc0_scratch2) X
abbrev buf3 (c : Dev nD) (X : V384 F) : sProp 𝕄 := own c (Memref.whole cc0_scratch3) X
abbrev buf4 (c : Dev nD) (X : V384 F) : sProp 𝕄 := own c (Memref.whole cc0_scratch4) X
abbrev buf5 (c : Dev nD) (X : V256 F) : sProp 𝕄 := own c (Memref.whole cc0_scratch5) X

/-! ## What lands on a partner -/

/-- What a lane's transfer leaves at the partner is the sender's running sum. -/
theorem recv_peer {i : Fin 18} {c : Dev nD} {s : Shape} {f : Dev nD → s.Idx → Elt F .bf16} {M : Memref sig .tc .vmem s .bf16}
    (h : ∀ c', recvPay m ρ i c' = own c' M (f (peer i c'))) : recvPay m ρ i (peer i c) = own (peer i c) M (f c) := by
  rw [h, peer_peer]

/-! ## The addressed devices -/

theorem dev1_eq (c : Dev nD) : (⟨k0_dev1 c, k0_dev1_lt c⟩ : Dev nD) = flip c 0 := by revert c; decide
theorem dev2_eq (c : Dev nD) : (⟨k0_dev2 c, k0_dev2_lt c⟩ : Dev nD) = flip c 1 := by revert c; decide
theorem dev3_eq (c : Dev nD) : (⟨k0_dev3 c, k0_dev3_lt c⟩ : Dev nD) = flip c 2 := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 3 c := by revert c; decide
theorem dev6_eq (c : Dev nD) : (⟨k0_dev6 c, k0_dev6_lt c⟩ : Dev nD) = peer 6 c := by revert c; decide
theorem dev7_eq (c : Dev nD) : (⟨k0_dev7 c, k0_dev7_lt c⟩ : Dev nD) = peer 9 c := by revert c; decide
theorem dev8_eq (c : Dev nD) : (⟨k0_dev8 c, k0_dev8_lt c⟩ : Dev nD) = peer 12 c := by revert c; decide
theorem dev9_eq (c : Dev nD) : (⟨k0_dev9 c, k0_dev9_lt c⟩ : Dev nD) = peer 15 c := by revert c; decide
theorem dev10_eq (c : Dev nD) : (⟨k0_dev10 c, k0_dev10_lt c⟩ : Dev nD) = peer 1 c := by revert c; decide
theorem dev11_eq (c : Dev nD) : (⟨k0_dev11 c, k0_dev11_lt c⟩ : Dev nD) = peer 4 c := by revert c; decide
theorem dev12_eq (c : Dev nD) : (⟨k0_dev12 c, k0_dev12_lt c⟩ : Dev nD) = peer 7 c := by revert c; decide
theorem dev13_eq (c : Dev nD) : (⟨k0_dev13 c, k0_dev13_lt c⟩ : Dev nD) = peer 10 c := by revert c; decide
theorem dev14_eq (c : Dev nD) : (⟨k0_dev14 c, k0_dev14_lt c⟩ : Dev nD) = peer 13 c := by revert c; decide
theorem dev15_eq (c : Dev nD) : (⟨k0_dev15 c, k0_dev15_lt c⟩ : Dev nD) = peer 16 c := by revert c; decide
theorem dev16_eq (c : Dev nD) : (⟨k0_dev16 c, k0_dev16_lt c⟩ : Dev nD) = peer 2 c := by revert c; decide
theorem dev17_eq (c : Dev nD) : (⟨k0_dev17 c, k0_dev17_lt c⟩ : Dev nD) = peer 5 c := by revert c; decide
theorem dev18_eq (c : Dev nD) : (⟨k0_dev18 c, k0_dev18_lt c⟩ : Dev nD) = peer 8 c := by revert c; decide
theorem dev19_eq (c : Dev nD) : (⟨k0_dev19 c, k0_dev19_lt c⟩ : Dev nD) = peer 11 c := by revert c; decide
theorem dev20_eq (c : Dev nD) : (⟨k0_dev20 c, k0_dev20_lt c⟩ : Dev nD) = peer 14 c := by revert c; decide
theorem dev21_eq (c : Dev nD) : (⟨k0_dev21 c, k0_dev21_lt c⟩ : Dev nD) = peer 17 c := by revert c; decide

end Cert.Exchange

end
-- ==== Proof.MiddleA.lean ====
/-
# The middle of the exchange, first half

The kernel's parts 9 to 13: block 0's first additions, its second transfers, block 1's first additions.
-/
module

public import proofs.«01_k».proof.Proof.Parts

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × KCell → ℕ)

/-- Parts 8 to 10: the last two first transfers of block 1, and block 0's first additions. -/
theorem segB (c : Dev nD) (v2 : BitVec 32) (v258 : FVec F S256x256 .bf16) (hv : k0_pay35 v258 = sum5 m ρ 0 c) {α : Type} {Q : α → sProp 𝕄} {k : Prog (TpuEff nD τ sig (Elt F) Λ₀ .tc) α} :
    world m ρ K ⊢ iprop(owesAny (F := F) c (oweL c (left 4)) -∗ ready (F := F) 12 c -∗ ready (F := F) 15 c -∗ fly (F := F) 0 c -∗ fly (F := F) 3 c -∗ fly (F := F) 6 c -∗ buf4 (F := F) c (sum4 m ρ 0 c) -∗ (∃ X : V256 F, buf5 (F := F) c X)
      -∗ ((owesAny (F := F) c (oweL c (left 6)) ∗ fly (F := F) 12 c ∗ fly (F := F) 15 c ∗ over (F := F) 0 c ∗ buf0 (F := F) c (sum0 m ρ 1 c) ∗ over (F := F) 3 c ∗ buf1 (F := F) c (sum1 m ρ 1 c) ∗ over (F := F) 6 c ∗ buf2 (F := F) c (sum2 m ρ 1 c)) -∗ WP c k Q)
      -∗ WP c (onBufs (k0_part8 (F := F)) c v2 v258 >>= fun _ => onBufs (k0_part9 (F := F)) >>= fun v318 => onBufs (k0_part10 (F := F)) v2 v318 >>= fun _ => k) Q) := by
  rw [k0_part8_eq_skeleton, k0_part9_eq_skeleton, k0_part10_eq_skeleton]; unfold k0_part8_skel k0_part9_skel k0_part10_skel
  simp only [Prog.lift, Prog.bind_op, Prog.bind_ret, Prog.pure_eq_ret]
  iintro #HW HO R12 R15 F0 F3 F6 B4 B5 Hk
  iapply (xfer m ρ K 12 c (left 4) (left 5) rfl _ (dev8_eq c) (Memref.whole cc0_scratch4) (slot384 (Memref.whole cc0_scratch10) 0) (sum4 m ρ 0 c)
    rfl (recv_peer m ρ (f := sum4 m ρ 0) fun _ => rfl) rfl rfl rfl rfl) $$ HW HO R12 B4
  iintro ⟨HO, F12⟩
  icases B5 with ⟨%X5, B5⟩
  iapply (read_any c (Memref.whole cc0_scratch5) X5) $$ B5
  iintro %v B5
  iapply (write_whole c (Memref.whole cc0_scratch5) X5 (sum5 m ρ 0 c) hv) $$ B5
  iintro B5
  iapply (xfer m ρ K 15 c (left 5) (left 6) rfl _ (dev9_eq c) (Memref.whole cc0_scratch5) (slot256 (Memref.whole cc0_scratch11) 0) (sum5 m ρ 0 c)
    rfl (recv_peer m ρ (f := sum5 m ρ 0) fun _ => rfl) rfl rfl rfl rfl) $$ HW HO R15 B5
  iintro ⟨HO, F15⟩
  iapply (fold m ρ K 0 c (left 6) (Memref.whole cc0_scratch0) (Memref.whole cc0_scratch6) (R384 0) (fun _ => rfl) _ shapeCasts_S1x256x384_S256x384
    _ _ (sum0 m ρ 1 c) rfl rfl (slot_any rfl _) rfl rfl (by decide) rfl rfl (fun v hv => add384_of hv rfl)) $$ HW HO F0
  iintro ⟨HO, D0, B0⟩
  iapply (fold m ρ K 3 c (left 6) (Memref.whole cc0_scratch1) (Memref.whole cc0_scratch7) (R384 0) (fun _ => rfl) _ shapeCasts_S1x256x384_S256x384
    _ _ (sum1 m ρ 1 c) rfl rfl (slot_any rfl _) rfl rfl (by decide) rfl rfl (fun v hv => add384_of hv rfl)) $$ HW HO F3
  iintro ⟨HO, D3, B1⟩
  iapply (fold m ρ K 6 c (left 6) (Memref.whole cc0_scratch2) (Memref.whole cc0_scratch8) (R256 0) (fun _ => rfl) _ shapeCasts_S1x256x256_S256x256
    _ _ (sum2 m ρ 1 c) rfl rfl (slot_any rfl _) rfl rfl (by decide) rfl rfl (fun v hv => add256_of hv rfl)) $$ HW HO F6
  iintro ⟨HO, D6, B2⟩
  iapply Hk
  isplitl [HO]; · iexact HO
  isplitl [F12]; · iexact F12
  isplitl [F15]; · iexact F15
  isplitl [D0]; · iexact D0
  isplitl [B0]; · iexact B0
  isplitl [D3]; · iexact D3
  isplitl [B1]; · iexact B1
  isplitl [D6]; · iexact D6
  iexact B2

/-- Parts 11 to 13: block 0's second transfers, and block 1's first additions. -/
theorem segC (c : Dev nD) (v2 : BitVec 32) {α : Type} {Q : α → sProp 𝕄} {k : Prog (TpuEff nD τ sig (Elt F) Λ₀ .tc) α} :
    world m ρ K ⊢ iprop(owesAny (F := F) c (oweL c (left 6)) -∗ ready (F := F) 1 c -∗ ready (F := F) 4 c -∗ ready (F := F) 7 c -∗ buf0 (F := F) c (sum0 m ρ 1 c) -∗ buf1 (F := F) c (sum1 m ρ 1 c) -∗ buf2 (F := F) c (sum2 m ρ 1 c) -∗ fly (F := F) 9 c -∗ fly (F := F) 12 c -∗ fly (F := F) 15 c
      -∗ ((owesAny (F := F) c (oweL c (left 9)) ∗ fly (F := F) 1 c ∗ fly (F := F) 4 c ∗ fly (F := F) 7 c ∗ over (F := F) 9 c ∗ buf3 (F := F) c (sum3 m ρ 1 c) ∗ over (F := F) 12 c ∗ buf4 (F := F) c (sum4 m ρ 1 c) ∗ over (F := F) 15 c ∗ buf5 (F := F) c (sum5 m ρ 1 c)) -∗ WP c k Q)
      -∗ WP c (onBufs (k0_part11 (F := F)) c v2 >>= fun _ => onBufs (k0_part12 (F := F)) >>= fun ⟨v378, v380⟩ => onBufs (k0_part13 (F := F)) v2 v378 v380 >>= fun _ => k) Q) := by
  rw [k0_part11_eq_skeleton, k0_part12_eq_skeleton, k0_part13_eq_skeleton]; unfold k0_part11_skel k0_part12_skel k0_part13_skel
  simp only [Prog.lift, Prog.bind_op, Prog.bind_ret, Prog.pure_eq_ret]
  iintro #HW HO R1 R4 R7 B0 B1 B2 F9 F12 F15 Hk
  iapply (xfer m ρ K 1 c (left 6) (left 7) rfl _ (dev10_eq c) (Memref.whole cc0_scratch0) (slot384 (Memref.whole cc0_scratch6) 1) (sum0 m ρ 1 c)
    rfl (recv_peer m ρ (f := sum0 m ρ 1) fun _ => rfl) rfl rfl rfl rfl) $$ HW HO R1 B0
  iintro ⟨HO, F1⟩
  iapply (xfer m ρ K 4 c (left 7) (left 8) rfl _ (dev11_eq c) (Memref.whole cc0_scratch1) (slot384 (Memref.whole cc0_scratch7) 1) (sum1 m ρ 1 c)
    rfl (recv_peer m ρ (f := sum1 m ρ 1) fun _ => rfl) rfl rfl rfl rfl) $$ HW HO R4 B1
  iintro ⟨HO, F4⟩
  iapply (xfer m ρ K 7 c (left 8) (left 9) rfl _ (dev12_eq c) (Memref.whole cc0_scratch2) (slot256 (Memref.whole cc0_scratch8) 1) (sum2 m ρ 1 c)
    rfl (recv_peer m ρ (f := sum2 m ρ 1) fun _ => rfl) rfl rfl rfl rfl) $$ HW HO R7 B2
  iintro ⟨HO, F7⟩
  iapply (fold m ρ K 9 c (left 9) (Memref.whole cc0_scratch3) (Memref.whole cc0_scratch9) (R384 0) (fun _ => rfl) _ shapeCasts_S1x256x384_S256x384
    _ _ (sum3 m ρ 1 c) rfl rfl (slot_any rfl _) rfl rfl (by decide) rfl rfl (fun v hv => add384_of hv rfl)) $$ HW HO F9
  iintro ⟨HO, D9, B3⟩
  iapply (fold m ρ K 12 c (left 9) (Memref.whole cc0_scratch4) (Memref.whole cc0_scratch10) (R384 0) (fun _ => rfl) _ shapeCasts_S1x256x384_S256x384
    _ _ (sum4 m ρ 1 c) rfl rfl (slot_any rfl _) rfl rfl (by decide) rfl rfl (fun v hv => add384_of hv rfl)) $$ HW HO F12
  iintro ⟨HO, D12, B4⟩
  iapply (fold m ρ K 15 c (left 9) (Memref.whole cc0_scratch5) (Memref.whole cc0_scratch11) (R256 0) (fun _ => rfl) _ shapeCasts_S1x256x256_S256x256
    _ _ (sum5 m ρ 1 c) rfl rfl (slot_any rfl _) rfl rfl (by decide) rfl rfl (fun v hv => add256_of hv rfl)) $$ HW HO F15
  iintro ⟨HO, D15, B5⟩
  iapply Hk
  isplitl [HO]; · iexact HO
  isplitl [F1]; · iexact F1
  isplitl [F4]; · iexact F4
  isplitl [F7]; · iexact F7
  isplitl [D9]; · iexact D9
  isplitl [B3]; · iexact B3
  isplitl [D12]; · iexact D12
  isplitl [B4]; · iexact B4
  isplitl [D15]; · iexact D15
  iexact B5

end Cert.Exchange

end
-- ==== Proof.MiddleB.lean ====
/-
# The middle of the exchange, second half

The kernel's parts 14 to 20: block 1's second transfers and block 0's second additions, then block 0's third
transfers, block 1's second additions and its third transfers.
-/
module

public import proofs.«01_k».proof.Proof.Parts

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × KCell → ℕ)

/-- Parts 14 to 16: block 1's second transfers, and block 0's second additions. -/
theorem segD (c : Dev nD) (v2 : BitVec 32) {α : Type} {Q : α → sProp 𝕄} {k : Prog (TpuEff nD τ sig (Elt F) Λ₀ .tc) α} :
    world m ρ K ⊢ iprop(owesAny (F := F) c (oweL c (left 9)) -∗ ready (F := F) 10 c -∗ ready (F := F) 13 c -∗ ready (F := F) 16 c -∗ buf3 (F := F) c (sum3 m ρ 1 c) -∗ buf4 (F := F) c (sum4 m ρ 1 c) -∗ buf5 (F := F) c (sum5 m ρ 1 c) -∗ fly (F := F) 1 c -∗ fly (F := F) 4 c -∗ fly (F := F) 7 c
      -∗ ((owesAny (F := F) c (oweL c (left 12)) ∗ fly (F := F) 10 c ∗ fly (F := F) 13 c ∗ fly (F := F) 16 c ∗ over (F := F) 1 c ∗ buf0 (F := F) c (sum0 m ρ 2 c) ∗ over (F := F) 4 c ∗ buf1 (F := F) c (sum1 m ρ 2 c) ∗ over (F := F) 7 c ∗ buf2 (F := F) c (sum2 m ρ 2 c)) -∗ WP c k Q)
      -∗ WP c (onBufs (k0_part14 (F := F)) c v2 >>= fun _ => onBufs (k0_part15 (F := F)) >>= fun _ => onBufs (k0_part16 (F := F)) v2 >>= fun _ => k) Q) := by
  rw [k0_part14_eq_skeleton, k0_part15_eq_skeleton, k0_part16_eq_skeleton]; unfold k0_part14_skel k0_part15_skel k0_part16_skel
  simp only [Prog.lift, Prog.bind_op, Prog.bind_ret, Prog.pure_eq_ret]
  iintro #HW HO R10 R13 R16 B3 B4 B5 F1 F4 F7 Hk
  iapply (xfer m ρ K 10 c (left 9) (left 10) rfl _ (dev13_eq c) (Memref.whole cc0_scratch3) (slot384 (Memref.whole cc0_scratch9) 1) (sum3 m ρ 1 c)
    rfl (recv_peer m ρ (f := sum3 m ρ 1) fun _ => rfl) rfl rfl rfl rfl) $$ HW HO R10 B3
  iintro ⟨HO, F10⟩
  iapply (xfer m ρ K 13 c (left 10) (left 11) rfl _ (dev14_eq c) (Memref.whole cc0_scratch4) (slot384 (Memref.whole cc0_scratch10) 1) (sum4 m ρ 1 c)
    rfl (recv_peer m ρ (f := sum4 m ρ 1) fun _ => rfl) rfl rfl rfl rfl) $$ HW HO R13 B4
  iintro ⟨HO, F13⟩
  iapply (xfer m ρ K 16 c (left 11) (left 12) rfl _ (dev15_eq c) (Memref.whole cc0_scratch5) (slot256 (Memref.whole cc0_scratch11) 1) (sum5 m ρ 1 c)
    rfl (recv_peer m ρ (f := sum5 m ρ 1) fun _ => rfl) rfl rfl rfl rfl) $$ HW HO R16 B5
  iintro ⟨HO, F16⟩
  iapply (fold m ρ K 1 c (left 12) (Memref.whole cc0_scratch0) (Memref.whole cc0_scratch6) (R384 1) (fun _ => rfl) _ shapeCasts_S1x256x384_S256x384
    _ _ (sum0 m ρ 2 c) rfl rfl (slot_any rfl _) rfl rfl (by decide) rfl rfl (fun v hv => add384_of hv rfl)) $$ HW HO F1
  iintro ⟨HO, D1, B0⟩
  iapply (fold m ρ K 4 c (left 12) (Memref.whole cc0_scratch1) (Memref.whole cc0_scratch7) (R384 1) (fun _ => rfl) _ shapeCasts_S1x256x384_S256x384
    _ _ (sum1 m ρ 2 c) rfl rfl (slot_any rfl _) rfl rfl (by decide) rfl rfl (fun v hv => add384_of hv rfl)) $$ HW HO F4
  iintro ⟨HO, D4, B1⟩
  iapply (fold m ρ K 7 c (left 12) (Memref.whole cc0_scratch2) (Memref.whole cc0_scratch8) (R256 1) (fun _ => rfl) _ shapeCasts_S1x256x256_S256x256
    _ _ (sum2 m ρ 2 c) rfl rfl (slot_any rfl _) rfl rfl (by decide) rfl rfl (fun v hv => add256_of hv rfl)) $$ HW HO F7
  iintro ⟨HO, D7, B2⟩
  iapply Hk
  isplitl [HO]; · iexact HO
  isplitl [F10]; · iexact F10
  isplitl [F13]; · iexact F13
  isplitl [F16]; · iexact F16
  isplitl [D1]; · iexact D1
  isplitl [B0]; · iexact B0
  isplitl [D4]; · iexact D4
  isplitl [B1]; · iexact B1
  isplitl [D7]; · iexact D7
  iexact B2

/-- Parts 17 to 20: block 0's third transfers, block 1's second additions and its third transfers. -/
theorem segE (c : Dev nD) (v2 : BitVec 32) {α : Type} {Q : α → sProp 𝕄} {k : Prog (TpuEff nD τ sig (Elt F) Λ₀ .tc) α} :
    world m ρ K ⊢ iprop(owesAny (F := F) c (oweL c (left 12)) -∗ ready (F := F) 2 c -∗ ready (F := F) 5 c -∗ ready (F := F) 8 c -∗ ready (F := F) 11 c -∗ ready (F := F) 14 c -∗ ready (F := F) 17 c -∗ buf0 (F := F) c (sum0 m ρ 2 c) -∗ buf1 (F := F) c (sum1 m ρ 2 c) -∗ buf2 (F := F) c (sum2 m ρ 2 c) -∗ fly (F := F) 10 c -∗ fly (F := F) 13 c -∗ fly (F := F) 16 c
      -∗ ((owesAny (F := F) c (oweL c ([])) ∗ fly (F := F) 2 c ∗ fly (F := F) 5 c ∗ fly (F := F) 8 c ∗ fly (F := F) 11 c ∗ fly (F := F) 14 c ∗ fly (F := F) 17 c ∗ over (F := F) 10 c ∗ over (F := F) 13 c ∗ over (F := F) 16 c) -∗ WP c k Q)
      -∗ WP c (onBufs (k0_part17 (F := F)) c v2 >>= fun _ => onBufs (k0_part18 (F := F)) >>= fun _ => onBufs (k0_part19 (F := F)) >>= fun ⟨v528, v529⟩ => onBufs (k0_part20 (F := F)) c v2 v528 v529 >>= fun _ => k) Q) := by
  rw [k0_part17_eq_skeleton, k0_part18_eq_skeleton, k0_part19_eq_skeleton, k0_part20_eq_skeleton]; unfold k0_part17_skel k0_part18_skel k0_part19_skel k0_part20_skel
  simp only [Prog.lift, Prog.bind_op, Prog.bind_ret, Prog.pure_eq_ret]
  iintro #HW HO R2 R5 R8 R11 R14 R17 B0 B1 B2 F10 F13 F16 Hk
  iapply (xfer m ρ K 2 c (left 12) (left 13) rfl _ (dev16_eq c) (Memref.whole cc0_scratch0) (slot384 (Memref.whole cc0_scratch6) 2) (sum0 m ρ 2 c)
    rfl (recv_peer m ρ (f := sum0 m ρ 2) fun _ => rfl) rfl rfl rfl rfl) $$ HW HO R2 B0
  iintro ⟨HO, F2⟩
  iapply (xfer m ρ K 5 c (left 13) (left 14) rfl _ (dev17_eq c) (Memref.whole cc0_scratch1) (slot384 (Memref.whole cc0_scratch7) 2) (sum1 m ρ 2 c)
    rfl (recv_peer m ρ (f := sum1 m ρ 2) fun _ => rfl) rfl rfl rfl rfl) $$ HW HO R5 B1
  iintro ⟨HO, F5⟩
  iapply (xfer m ρ K 8 c (left 14) (left 15) rfl _ (dev18_eq c) (Memref.whole cc0_scratch2) (slot256 (Memref.whole cc0_scratch8) 2) (sum2 m ρ 2 c)
    rfl (recv_peer m ρ (f := sum2 m ρ 2) fun _ => rfl) rfl rfl rfl rfl) $$ HW HO R8 B2
  iintro ⟨HO, F8⟩
  iapply (fold m ρ K 10 c (left 15) (Memref.whole cc0_scratch3) (Memref.whole cc0_scratch9) (R384 1) (fun _ => rfl) _ shapeCasts_S1x256x384_S256x384
    _ _ (sum3 m ρ 2 c) rfl rfl (slot_any rfl _) rfl rfl (by decide) rfl rfl (fun v hv => add384_of hv rfl)) $$ HW HO F10
  iintro ⟨HO, D10, B3⟩
  iapply (fold m ρ K 13 c (left 15) (Memref.whole cc0_scratch4) (Memref.whole cc0_scratch10) (R384 1) (fun _ => rfl) _ shapeCasts_S1x256x384_S256x384
    _ _ (sum4 m ρ 2 c) rfl rfl (slot_any rfl _) rfl rfl (by decide) rfl rfl (fun v hv => add384_of hv rfl)) $$ HW HO F13
  iintro ⟨HO, D13, B4⟩
  iapply (fold m ρ K 16 c (left 15) (Memref.whole cc0_scratch5) (Memref.whole cc0_scratch11) (R256 1) (fun _ => rfl) _ shapeCasts_S1x256x256_S256x256
    _ _ (sum5 m ρ 2 c) rfl rfl (slot_any rfl _) rfl rfl (by decide) rfl rfl (fun v hv => add256_of hv rfl)) $$ HW HO F16
  iintro ⟨HO, D16, B5⟩
  iapply (xfer m ρ K 11 c (left 15) (left 16) rfl _ (dev19_eq c) (Memref.whole cc0_scratch3) (slot384 (Memref.whole cc0_scratch9) 2) (sum3 m ρ 2 c)
    rfl (recv_peer m ρ (f := sum3 m ρ 2) fun _ => rfl) rfl rfl rfl rfl) $$ HW HO R11 B3
  iintro ⟨HO, F11⟩
  iapply (xfer m ρ K 14 c (left 16) (left 17) rfl _ (dev20_eq c) (Memref.whole cc0_scratch4) (slot384 (Memref.whole cc0_scratch10) 2) (sum4 m ρ 2 c)
    rfl (recv_peer m ρ (f := sum4 m ρ 2) fun _ => rfl) rfl rfl rfl rfl) $$ HW HO R14 B4
  iintro ⟨HO, F14⟩
  iapply (xfer m ρ K 17 c (left 17) (left 18) rfl _ (dev21_eq c) (Memref.whole cc0_scratch5) (slot256 (Memref.whole cc0_scratch11) 2) (sum5 m ρ 2 c)
    rfl (recv_peer m ρ (f := sum5 m ρ 2) fun _ => rfl) rfl rfl rfl rfl) $$ HW HO R17 B5
  iintro ⟨HO, F17⟩
  iapply Hk
  isplitl [HO]; · iexact HO
  isplitl [F2]; · iexact F2
  isplitl [F5]; · iexact F5
  isplitl [F8]; · iexact F8
  isplitl [F11]; · iexact F11
  isplitl [F14]; · iexact F14
  isplitl [F17]; · iexact F17
  isplitl [D10]; · iexact D10
  isplitl [D13]; · iexact D13
  iexact D16

end Cert.Exchange

end
-- ==== Proof.Ending.lean ====
/-
# The last step of the exchange

The kernel's parts 21 to 24: the last transfers of five lanes waited for, and the lanes' last additions written to
the result.
-/
module

public import proofs.«01_k».proof.Proof.Parts

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × KCell → ℕ)

/-- Parts 21 to 24: the last additions of five lanes. -/
theorem segF (c : Dev nD) (X : (cc0_stg5_0 : Ref sig .tc).ty.Contents (Elt F)) {α : Type} {Q : α → sProp 𝕄} {k : Prog (TpuEff nD τ sig (Elt F) Λ₀ .tc) α} :
    world m ρ K ⊢ iprop(owesAny (F := F) c (oweL c ([])) -∗ fly (F := F) 2 c -∗ fly (F := F) 5 c -∗ fly (F := F) 8 c -∗ fly (F := F) 11 c -∗ fly (F := F) 14 c -∗ own (F := F) c oM X
      -∗ ((owesAny (F := F) c (oweL c ([])) ∗ over (F := F) 2 c ∗ buf0 (F := F) c (sum0 m ρ 2 c) ∗ over (F := F) 5 c ∗ buf1 (F := F) c (sum1 m ρ 2 c) ∗ over (F := F) 8 c ∗ buf2 (F := F) c (sum2 m ρ 2 c) ∗ over (F := F) 11 c ∗ buf3 (F := F) c (sum3 m ρ 2 c) ∗ over (F := F) 14 c ∗ buf4 (F := F) c (sum4 m ρ 2 c) ∗ own (F := F) c oM (put rO4 (put rO3 (put rO2 (put rO1 (put rO0 X (last0 m ρ c)) (last1 m ρ c)) (last2 m ρ c)) (last3 m ρ c)) (last4 m ρ c))) -∗ WP c k Q)
      -∗ WP c (onBufs (k0_part21 (F := F)) >>= fun _ => onBufs (k0_part22 (F := F)) >>= fun _ => onBufs (k0_part23 (F := F)) >>= fun v617 => onBufs (k0_part24 (F := F)) v617 >>= fun _ => k) Q) := by
  rw [k0_part21_eq_skeleton, k0_part22_eq_skeleton, k0_part23_eq_skeleton, k0_part24_eq_skeleton]; unfold k0_part21_skel k0_part22_skel k0_part23_skel k0_part24_skel
  simp only [Prog.lift, Prog.bind_op, Prog.bind_ret, Prog.pure_eq_ret]
  iintro #HW HO F2 F5 F8 F11 F14 Hout Hk
  iapply (finish m ρ K 2 c (Memref.whole cc0_scratch0) (Memref.whole cc0_scratch6) (R384 2) (fun _ => rfl) _ shapeCasts_S1x256x384_S256x384
    _ _ rfl rfl (slot_any rfl _) rfl rfl rfl rfl rO0 _ (last0 m ρ c) (fun v hv => fin384_of hv rfl)) $$ HW HO F2 Hout
  iintro ⟨HO, D2, B0, Hout⟩
  iapply (finish m ρ K 5 c (Memref.whole cc0_scratch1) (Memref.whole cc0_scratch7) (R384 2) (fun _ => rfl) _ shapeCasts_S1x256x384_S256x384
    _ _ rfl rfl (slot_any rfl _) rfl rfl rfl rfl rO1 _ (last1 m ρ c) (fun v hv => fin384_of hv rfl)) $$ HW HO F5 Hout
  iintro ⟨HO, D5, B1, Hout⟩
  iapply (finish m ρ K 8 c (Memref.whole cc0_scratch2) (Memref.whole cc0_scratch8) (R256 2) (fun _ => rfl) _ shapeCasts_S1x256x256_S256x256
    _ _ rfl rfl (slot_any rfl _) rfl rfl rfl rfl rO2 _ (last2 m ρ c) (fun v hv => fin256_of hv rfl)) $$ HW HO F8 Hout
  iintro ⟨HO, D8, B2, Hout⟩
  iapply (finish m ρ K 11 c (Memref.whole cc0_scratch3) (Memref.whole cc0_scratch9) (R384 2) (fun _ => rfl) _ shapeCasts_S1x256x384_S256x384
    _ _ rfl rfl (slot_any rfl _) rfl rfl rfl rfl rO3 _ (last3 m ρ c) (fun v hv => fin384_of hv rfl)) $$ HW HO F11 Hout
  iintro ⟨HO, D11, B3, Hout⟩
  iapply (finish m ρ K 14 c (Memref.whole cc0_scratch4) (Memref.whole cc0_scratch10) (R384 2) (fun _ => rfl) _ shapeCasts_S1x256x384_S256x384
    _ _ rfl rfl (slot_any rfl _) rfl rfl rfl rfl rO4 _ (last4 m ρ c) (fun v hv => fin384_of hv rfl)) $$ HW HO F14 Hout
  iintro ⟨HO, D14, B4, Hout⟩
  iapply Hk
  isplitl [HO]; · iexact HO
  isplitl [D2]; · iexact D2
  isplitl [B0]; · iexact B0
  isplitl [D5]; · iexact D5
  isplitl [B1]; · iexact B1
  isplitl [D8]; · iexact D8
  isplitl [B2]; · iexact B2
  isplitl [D11]; · iexact D11
  isplitl [B3]; · iexact B3
  isplitl [D14]; · iexact D14
  isplitl [B4]; · iexact B4
  iexact Hout

end Cert.Exchange

end
-- ==== Proof.Body.lean ====
/-
# The kernel's body

The parts put together: from a device's start to its end, the result block overwritten by the six lanes' last sums.
-/
module

public import proofs.«01_k».proof.Proof.MiddleA
public import proofs.«01_k».proof.Proof.MiddleB
public import proofs.«01_k».proof.Proof.Ending

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × KCell → ℕ)

/-- The operands in the staging buffers. -/
def operands (c : Dev nD) : sProp 𝕄 :=
  iprop(own (F := F) c (Memref.whole cc0_stg0_0) (xin m ρ c) ∗ own (F := F) c (Memref.whole cc0_stg1_0) (wqin m ρ c) ∗ own (F := F) c (Memref.whole cc0_stg2_0) (woin m ρ c)
    ∗ own (F := F) c (Memref.whole cc0_stg3_0) (wkin m ρ c) ∗ own (F := F) c (Memref.whole cc0_stg4_0) (wvin m ρ c))

/-- A device's start: what it owes, its tokens, its own landing slots, to hand over at the barrier. -/
def entry (c : Dev nD) : sProp 𝕄 :=
  iprop(owesAny (F := F) c (O₀ c) ∗ (dutyTok ER (barCell (flip c 0)) 0 0 ∗ dutyTok ER (barCell (flip c 1)) 0 1 ∗ dutyTok ER (barCell (flip c 2)) 0 2)
    ∗ (bigSep Finset.univ fun i : Fin 18 => anySlot (F := F) i c) ∗ cred (tallyAt (barCell c) () 3) ∗ atPos ER (barCell c) 0 ∅ 0
    ∗ bigSep Finset.univ fun i : Fin 18 => kit (F := F) i c)

/-- The transfers ready: the partners' slots have come with the barrier. -/
theorem ready_all (c : Dev nD) :
    iprop((bigSep Finset.univ fun i : Fin 18 => kit (F := F) i c) ∗ bigSep Finset.univ fun i : Fin 18 => anySlot (F := F) i (peer i c))
      ⊢ iprop(ready (F := F) 0 c ∗ ready (F := F) 3 c ∗ ready (F := F) 6 c ∗ ready (F := F) 9 c ∗ ready (F := F) 12 c ∗ ready (F := F) 15 c ∗ ready (F := F) 1 c ∗ ready (F := F) 4 c ∗ ready (F := F) 7 c ∗ ready (F := F) 10 c ∗ ready (F := F) 13 c ∗ ready (F := F) 16 c ∗ ready (F := F) 2 c ∗ ready (F := F) 5 c ∗ ready (F := F) 8 c ∗ ready (F := F) 11 c ∗ ready (F := F) 14 c ∗ ready (F := F) 17 c) := by
  rw [← bigSep_sep', bigSep_univ_eq_bigSepL [0, 3, 6, 9, 12, 15, 1, 4, 7, 10, 13, 16, 2, 5, 8, 11, 14, 17] (by decide) (by decide)]
  exact Entails.refl _

/-- The lanes' buffers, whatever they hold. -/
def bufs (c : Dev nD) : sProp 𝕄 :=
  iprop((∃ X, buf0 (F := F) c X) ∗ (∃ X, buf1 (F := F) c X) ∗ (∃ X, buf2 (F := F) c X) ∗ (∃ X, buf3 (F := F) c X) ∗ (∃ X, buf4 (F := F) c X) ∗ (∃ X, buf5 (F := F) c X))

/-- A device's end: nothing owed, every counter at zero, its buffers its own again, the result block overwritten. -/
def exit (c : Dev nD) (X : (cc0_stg5_0 : Ref sig .tc).ty.Contents (Elt F)) : sProp 𝕄 :=
  iprop(owesAny (F := F) c 0 ∗ operands m ρ c ∗ semVal (barCell c) 0 ∗ (bigSep Finset.univ fun i : Fin 18 => over (F := F) i c) ∗ bufs (F := F) c
    ∗ own (F := F) c oM (outFrom m ρ X c))

/-- A program then another, the first run to the second's start. -/
theorem wp_seq (c : Dev nD) {α β : Type} {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q := by
  unfold WP; rw [wp_bind]

/-- A program at its end. -/
theorem wp_done (c : Dev nD) {α : Type} {Q : α → sProp 𝕄} {a : α} : Q a ⊢ WP (F := F) c (.ret a) Q := by
  unfold WP; rw [wp_ret]; exact fupd_intro

theorem over_all (c : Dev nD) :
    iprop(over (F := F) 0 c ∗ over (F := F) 3 c ∗ over (F := F) 6 c ∗ over (F := F) 9 c ∗ over (F := F) 12 c ∗ over (F := F) 15 c ∗ over (F := F) 1 c ∗ over (F := F) 4 c ∗ over (F := F) 7 c ∗ over (F := F) 10 c ∗ over (F := F) 13 c ∗ over (F := F) 16 c ∗ over (F := F) 2 c ∗ over (F := F) 5 c ∗ over (F := F) 8 c ∗ over (F := F) 11 c ∗ over (F := F) 14 c ∗ over (F := F) 17 c) ⊢ (bigSep Finset.univ fun i : Fin 18 => over (F := F) i c) := by
  rw [bigSep_univ_eq_bigSepL [0, 3, 6, 9, 12, 15, 1, 4, 7, 10, 13, 16, 2, 5, 8, 11, 14, 17] (by decide) (by decide)]
  exact Entails.refl _

set_option maxHeartbeats 1000000 in
/-- The body. -/
theorem body (c : Dev nD) (X : (cc0_stg5_0 : Ref sig .tc).ty.Contents (Elt F)) {Q : PUnit → sProp 𝕄} :
    world m ρ K ⊢ iprop(entry (F := F) c -∗ operands m ρ c -∗ bufs (F := F) c -∗ own (F := F) c oM X -∗ (exit m ρ c X -∗ Q ⟨⟩) -∗ WP c (onBufs (cc0_body (F := F))) Q) := by
  unfold onBufs
  rw [cc0_body_eq_skeleton]; unfold cc0_body_skel
  rw [k0_part25_eq_skeleton]; unfold k0_part25_skel
  unfold bufs
  iintro #HW Hin Hops ⟨B0, B1, B2, B3, B4, B5⟩ Hout Hk
  iapply (wp_seq c)
  rw [k0_part1_eq_skeleton]; unfold k0_part1_skel
  simp only [semSignalWord, Prog.lift, Prog.bind_op, Prog.bind_ret, Prog.pure_eq_ret, wp_deviceId]
  unfold entry operands
  rw [slots_split]
  icases Hin with ⟨HO, ⟨T0, T1, T2⟩, ⟨P0, P1, P2⟩, HcB, HaB, Hkits⟩
  icases Hops with ⟨Hx, Hq, Hwo, Hwk, Hwv⟩
  icases B0 with ⟨%X0, B0⟩
  icases B1 with ⟨%X1, B1⟩
  icases B2 with ⟨%X2, B2⟩
  icases B3 with ⟨%X3, B3⟩
  icases B4 with ⟨%X4, B4⟩
  iapply (signal m ρ K c _ 0 (dev1_eq c) (O₀ c) (O₁ c) rfl rfl rfl) $$ HW HO T0 P0
  iintro HO
  iapply (signal m ρ K c _ 1 (dev2_eq c) (O₁ c) (O₂ c) rfl rfl rfl) $$ HW HO T1 P1
  iintro HO
  iapply (signal m ρ K c _ 2 (dev3_eq c) (O₂ c) (oweL c (left 0)) rfl rfl rfl) $$ HW HO T2 P2
  iintro HO
  iapply (read_whole c (Memref.whole cc0_stg0_0) (xin m ρ c)) $$ Hx
  iintro Hx
  iapply (read_whole c (Memref.whole cc0_stg1_0) (wqin m ρ c)) $$ Hq
  iintro Hq
  iapply (read_whole c (Memref.whole cc0_stg3_0) (wkin m ρ c)) $$ Hwk
  iintro Hwk
  iapply (read_whole c (Memref.whole cc0_stg4_0) (wvin m ρ c)) $$ Hwv
  iintro Hwv
  iapply (read_whole c (Memref.whole cc0_stg2_0) (woin m ρ c)) $$ Hwo
  iintro Hwo
  rw [k0_part2_eq_skeleton, k0_part3_eq_skeleton, k0_part4_eq_skeleton]; unfold k0_part2_skel k0_part3_skel k0_part4_skel
  simp only [semWaitWord, Prog.lift, Prog.bind_op, Prog.bind_ret, Prog.pure_eq_ret]
  iapply (barrier m ρ K c (left 0) rfl rfl) $$ HW HO HcB HaB
  iintro ⟨HO, Hslots, HzB⟩
  ihave Hready := (ready_all c) $$ [Hkits Hslots]
  · isplitl [Hkits]; · iexact Hkits
    iexact Hslots
  icases Hready with ⟨R0, R3, R6, R9, R12, R15, R1, R4, R7, R10, R13, R16, R2, R5, R8, R11, R14, R17⟩
  iapply (read_any c (Memref.whole cc0_scratch0) X0) $$ B0
  iintro %u0 B0
  iapply (write_whole c (Memref.whole cc0_scratch0) X0 (sum0 m ρ 0 c) rfl) $$ B0
  iintro B0
  iapply (xfer m ρ K 0 c (left 0) (left 1) rfl _ (dev4_eq c) (Memref.whole cc0_scratch0) (slot384 (Memref.whole cc0_scratch6) 0) (sum0 m ρ 0 c)
    rfl (recv_peer m ρ (f := sum0 m ρ 0) fun _ => rfl) rfl rfl rfl rfl) $$ HW HO R0 B0
  iintro ⟨HO, F0⟩
  iapply (read_any c (Memref.whole cc0_scratch1) X1) $$ B1
  iintro %u1 B1
  iapply (write_whole c (Memref.whole cc0_scratch1) X1 (sum1 m ρ 0 c) rfl) $$ B1
  iintro B1
  iapply (xfer m ρ K 3 c (left 1) (left 2) rfl _ (dev5_eq c) (Memref.whole cc0_scratch1) (slot384 (Memref.whole cc0_scratch7) 0) (sum1 m ρ 0 c)
    rfl (recv_peer m ρ (f := sum1 m ρ 0) fun _ => rfl) rfl rfl rfl rfl) $$ HW HO R3 B1
  iintro ⟨HO, F3⟩
  iapply (read_any c (Memref.whole cc0_scratch2) X2) $$ B2
  iintro %u2 B2
  iapply (write_whole c (Memref.whole cc0_scratch2) X2 (sum2 m ρ 0 c) rfl) $$ B2
  iintro B2
  rw [k0_part5_eq_skeleton, k0_part6_eq_skeleton, k0_part7_eq_skeleton]; unfold k0_part5_skel k0_part6_skel k0_part7_skel
  simp only [Prog.lift, Prog.bind_op, Prog.bind_ret, Prog.pure_eq_ret]
  iapply (xfer m ρ K 6 c (left 2) (left 3) rfl _ (dev6_eq c) (Memref.whole cc0_scratch2) (slot256 (Memref.whole cc0_scratch8) 0) (sum2 m ρ 0 c)
    rfl (recv_peer m ρ (f := sum2 m ρ 0) fun _ => rfl) rfl rfl rfl rfl) $$ HW HO R6 B2
  iintro ⟨HO, F6⟩
  iapply (read_any c (Memref.whole cc0_scratch3) X3) $$ B3
  iintro %u3 B3
  iapply (write_whole c (Memref.whole cc0_scratch3) X3 (sum3 m ρ 0 c) rfl) $$ B3
  iintro B3
  iapply (xfer m ρ K 9 c (left 3) (left 4) rfl _ (dev7_eq c) (Memref.whole cc0_scratch3) (slot384 (Memref.whole cc0_scratch9) 0) (sum3 m ρ 0 c)
    rfl (recv_peer m ρ (f := sum3 m ρ 0) fun _ => rfl) rfl rfl rfl rfl) $$ HW HO R9 B3
  iintro ⟨HO, F9⟩
  iapply (read_any c (Memref.whole cc0_scratch4) X4) $$ B4
  iintro %u4 B4
  iapply (write_whole c (Memref.whole cc0_scratch4) X4 (sum4 m ρ 0 c) rfl) $$ B4
  iintro B4
  iapply (segB m ρ K c _ _ rfl) $$ HW HO R12 R15 F0 F3 F6 B4 B5
  iintro ⟨HO, F12, F15, D0, B0, D3, B1, D6, B2⟩
  iapply (segC m ρ K c _) $$ HW HO R1 R4 R7 B0 B1 B2 F9 F12 F15
  iintro ⟨HO, F1, F4, F7, D9, B3, D12, B4, D15, B5⟩
  iapply (segD m ρ K c _) $$ HW HO R10 R13 R16 B3 B4 B5 F1 F4 F7
  iintro ⟨HO, F10, F13, F16, D1, B0, D4, B1, D7, B2⟩
  iapply (segE m ρ K c _) $$ HW HO R2 R5 R8 R11 R14 R17 B0 B1 B2 F10 F13 F16
  iintro ⟨HO, F2, F5, F8, F11, F14, F17, D10, D13, D16⟩
  iapply (segF m ρ K c X) $$ HW HO F2 F5 F8 F11 F14 Hout
  iintro ⟨HO, D2, B0, D5, B1, D8, B2, D11, B3, D14, B4, Hout⟩
  iapply (wait_send m ρ K 17 c [] (Memref.whole cc0_scratch5) (sum5 m ρ 2 c) rfl rfl rfl) $$ HW HO F17
  iintro ⟨HO, F17, B5⟩
  iapply (wait_recv m ρ K 17 c [] (slot256 (Memref.whole cc0_scratch11) 2) (sum5 m ρ 2 (peer 17 c)) rfl rfl rfl (fun _ h => absurd h List.not_mem_nil)) $$ HW HO F17
  iintro ⟨HO, F17, S17⟩
  iapply (read_whole c (Memref.whole cc0_scratch5) (sum5 m ρ 2 c)) $$ B5
  iintro B5
  iapply (read_slot c (Memref.whole cc0_scratch11) (R256 2) (fun _ => rfl) squeezes_S1x256x256_S256x256 shapeCasts_S1x256x256_S256x256 (sum5 m ρ 2 (peer 17 c))) $$ S17
  iintro %v %hs S17
  iapply (read_any c oM _) $$ Hout
  iintro %u Hout
  iapply (wp_done c)
  iapply (write_put c rO5 _ (last5 m ρ c) (fin256_of hs rfl)) $$ Hout
  iintro Hout
  iapply (wp_done c)
  iapply Hk
  unfold exit operands
  isplitl [HO]; · iexact HO
  isplitl [Hx Hq Hwo Hwk Hwv]
  · isplitl [Hx]; · iexact Hx
    isplitl [Hq]; · iexact Hq
    isplitl [Hwo]; · iexact Hwo
    isplitl [Hwk]; · iexact Hwk
    iexact Hwv
  isplitl [HzB]; · iexact HzB
  isplitl [F17 S17 D0 D3 D6 D9 D12 D15 D1 D4 D7 D10 D13 D16 D2 D5 D8 D11 D14]
  · iapply (over_all (F := F) c)
    isplitl [D0]; · iexact D0
    isplitl [D3]; · iexact D3
    isplitl [D6]; · iexact D6
    isplitl [D9]; · iexact D9
    isplitl [D12]; · iexact D12
    isplitl [D15]; · iexact D15
    isplitl [D1]; · iexact D1
    isplitl [D4]; · iexact D4
    isplitl [D7]; · iexact D7
    isplitl [D10]; · iexact D10
    isplitl [D13]; · iexact D13
    isplitl [D16]; · iexact D16
    isplitl [D2]; · iexact D2
    isplitl [D5]; · iexact D5
    isplitl [D8]; · iexact D8
    isplitl [D11]; · iexact D11
    isplitl [D14]; · iexact D14
    unfold over; isplitl [F17]; · iexact F17
    iapply (slot_any rfl _); iexact S17
  isplitr [Hout]
  · unfold bufs
    isplitl [B0]; · (iexists _; iexact B0)
    isplitl [B1]; · (iexists _; iexact B1)
    isplitl [B2]; · (iexists _; iexact B2)
    isplitl [B3]; · (iexists _; iexact B3)
    isplitl [B4]; · (iexists _; iexact B4)
    iexists _; iexact B5
  unfold outFrom; iexact Hout

end Cert.Exchange

end
-- ==== Proof.Result.lean ====
/-
# The result block

The six lanes' rectangles cover the result block, so what it holds at the end does not depend on what it held before;
and each lane's rectangle holds that lane's last sum.
-/
module

public import proofs.«01_k».proof.Proof.Protocol

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Where a rectangle is written it holds what is written; -/
theorem put_emb (r : Rect S1x512x1024) (f : (cc0_stg5_0 : Ref sig .tc).ty.Contents (Elt F)) (w : r.shape.Idx → Elt F .f32) (x : r.shape.Idx) :
    put r f w (r.emb x) = w x :=
  View.write_emb_of_mem (v := oM.access r) f w (M := Finset.univ) (x := x) (Finset.mem_univ x)

omit [FloatOps F] in
/-- elsewhere the block is as it was. -/
theorem put_off (r : Rect S1x512x1024) (f : (cc0_stg5_0 : Ref sig .tc).ty.Contents (Elt F)) (w : r.shape.Idx → Elt F .f32) (y : S1x512x1024.Idx)
    (h : y ∉ r.set) : put r f w y = f y := by
  refine View.write_of_not_mem (v := oM.access r) f w Finset.univ fun hy => h ?_
  obtain ⟨x, -, hx⟩ := Finset.mem_map.mp hy
  rw [← r.map_emb_univ]
  exact Finset.mem_map.mpr ⟨x, Finset.mem_univ x, hx⟩

/-- Whether an index lies in a rectangle of rows `i₀` to `i₀ + 255` and columns `j₀` to `j₀ + n - 1`. -/
theorem mem_rect {i₀ j₀ n : ℕ} {inb} (y : S1x512x1024.Idx) :
    y ∈ (Rect.unit (s := S1x512x1024) ![0, i₀, j₀] ![1, 256, n] inb).set
      ↔ (i₀ ≤ (y (1 : Fin 3)).val ∧ (y (1 : Fin 3)).val < i₀ + 256) ∧ j₀ ≤ (y (2 : Fin 3)).val ∧ (y (2 : Fin 3)).val < j₀ + n := by
  rw [Rect.mem_set_unit]
  constructor
  · intro h; exact ⟨h 1, h 2⟩
  · rintro ⟨h1, h2⟩ a
    have h0 := (y (0 : Fin 3)).isLt
    fin_cases a
    · exact ⟨Nat.zero_le _, by simpa using h0⟩
    · exact h1
    · exact h2

theorem mem_O0 (y : S1x512x1024.Idx) : y ∈ rO0.set ↔ (0 ≤ (y (1 : Fin 3)).val ∧ (y (1 : Fin 3)).val < 0 + 256) ∧ 0 ≤ (y (2 : Fin 3)).val ∧ (y (2 : Fin 3)).val < 0 + 384 := mem_rect y
theorem mem_O1 (y : S1x512x1024.Idx) : y ∈ rO1.set ↔ (0 ≤ (y (1 : Fin 3)).val ∧ (y (1 : Fin 3)).val < 0 + 256) ∧ 384 ≤ (y (2 : Fin 3)).val ∧ (y (2 : Fin 3)).val < 384 + 384 := mem_rect y
theorem mem_O2 (y : S1x512x1024.Idx) : y ∈ rO2.set ↔ (0 ≤ (y (1 : Fin 3)).val ∧ (y (1 : Fin 3)).val < 0 + 256) ∧ 768 ≤ (y (2 : Fin 3)).val ∧ (y (2 : Fin 3)).val < 768 + 256 := mem_rect y
theorem mem_O3 (y : S1x512x1024.Idx) : y ∈ rO3.set ↔ (256 ≤ (y (1 : Fin 3)).val ∧ (y (1 : Fin 3)).val < 256 + 256) ∧ 0 ≤ (y (2 : Fin 3)).val ∧ (y (2 : Fin 3)).val < 0 + 384 := mem_rect y
theorem mem_O4 (y : S1x512x1024.Idx) : y ∈ rO4.set ↔ (256 ≤ (y (1 : Fin 3)).val ∧ (y (1 : Fin 3)).val < 256 + 256) ∧ 384 ≤ (y (2 : Fin 3)).val ∧ (y (2 : Fin 3)).val < 384 + 384 := mem_rect y
theorem mem_O5 (y : S1x512x1024.Idx) : y ∈ rO5.set ↔ (256 ≤ (y (1 : Fin 3)).val ∧ (y (1 : Fin 3)).val < 256 + 256) ∧ 768 ≤ (y (2 : Fin 3)).val ∧ (y (2 : Fin 3)).val < 768 + 256 := mem_rect y

/-- Every index lies in one of the six rectangles. -/
theorem cover (y : S1x512x1024.Idx) :
    y ∈ rO0.set ∨ y ∈ rO1.set ∨ y ∈ rO2.set ∨ y ∈ rO3.set ∨ y ∈ rO4.set ∨ y ∈ rO5.set := by
  have h1 : (y (1 : Fin 3)).val < 512 := (y (1 : Fin 3)).isLt
  have h2 : (y (2 : Fin 3)).val < 1024 := (y (2 : Fin 3)).isLt
  simp only [mem_O0, mem_O1, mem_O2, mem_O3, mem_O4, mem_O5]
  omega

theorem outFrom_0 (f : (cc0_stg5_0 : Ref sig .tc).ty.Contents (Elt F)) (c : Dev nD) (x : rO0.shape.Idx) : outFrom m ρ f c (rO0.emb x) = last0 m ρ c x := by
  have hx : rO0.emb x ∈ rO0.set := rO0.map_emb_univ ▸ Finset.mem_map_of_mem _ (Finset.mem_univ x)
  rw [mem_O0] at hx
  unfold outFrom
  rw [put_off _ _ _ _ (by rw [mem_O5]; omega), put_off _ _ _ _ (by rw [mem_O4]; omega), put_off _ _ _ _ (by rw [mem_O3]; omega), put_off _ _ _ _ (by rw [mem_O2]; omega), put_off _ _ _ _ (by rw [mem_O1]; omega), put_emb]
theorem outFrom_1 (f : (cc0_stg5_0 : Ref sig .tc).ty.Contents (Elt F)) (c : Dev nD) (x : rO1.shape.Idx) : outFrom m ρ f c (rO1.emb x) = last1 m ρ c x := by
  have hx : rO1.emb x ∈ rO1.set := rO1.map_emb_univ ▸ Finset.mem_map_of_mem _ (Finset.mem_univ x)
  rw [mem_O1] at hx
  unfold outFrom
  rw [put_off _ _ _ _ (by rw [mem_O5]; omega), put_off _ _ _ _ (by rw [mem_O4]; omega), put_off _ _ _ _ (by rw [mem_O3]; omega), put_off _ _ _ _ (by rw [mem_O2]; omega), put_emb]
theorem outFrom_2 (f : (cc0_stg5_0 : Ref sig .tc).ty.Contents (Elt F)) (c : Dev nD) (x : rO2.shape.Idx) : outFrom m ρ f c (rO2.emb x) = last2 m ρ c x := by
  have hx : rO2.emb x ∈ rO2.set := rO2.map_emb_univ ▸ Finset.mem_map_of_mem _ (Finset.mem_univ x)
  rw [mem_O2] at hx
  unfold outFrom
  rw [put_off _ _ _ _ (by rw [mem_O5]; omega), put_off _ _ _ _ (by rw [mem_O4]; omega), put_off _ _ _ _ (by rw [mem_O3]; omega), put_emb]
theorem outFrom_3 (f : (cc0_stg5_0 : Ref sig .tc).ty.Contents (Elt F)) (c : Dev nD) (x : rO3.shape.Idx) : outFrom m ρ f c (rO3.emb x) = last3 m ρ c x := by
  have hx : rO3.emb x ∈ rO3.set := rO3.map_emb_univ ▸ Finset.mem_map_of_mem _ (Finset.mem_univ x)
  rw [mem_O3] at hx
  unfold outFrom
  rw [put_off _ _ _ _ (by rw [mem_O5]; omega), put_off _ _ _ _ (by rw [mem_O4]; omega), put_emb]
theorem outFrom_4 (f : (cc0_stg5_0 : Ref sig .tc).ty.Contents (Elt F)) (c : Dev nD) (x : rO4.shape.Idx) : outFrom m ρ f c (rO4.emb x) = last4 m ρ c x := by
  have hx : rO4.emb x ∈ rO4.set := rO4.map_emb_univ ▸ Finset.mem_map_of_mem _ (Finset.mem_univ x)
  rw [mem_O4] at hx
  unfold outFrom
  rw [put_off _ _ _ _ (by rw [mem_O5]; omega), put_emb]
theorem outFrom_5 (f : (cc0_stg5_0 : Ref sig .tc).ty.Contents (Elt F)) (c : Dev nD) (x : rO5.shape.Idx) : outFrom m ρ f c (rO5.emb x) = last5 m ρ c x := by
  have hx : rO5.emb x ∈ rO5.set := rO5.map_emb_univ ▸ Finset.mem_map_of_mem _ (Finset.mem_univ x)
  rw [mem_O5] at hx
  unfold outFrom
  rw [put_emb]

/-- What the block held before is overwritten. -/
theorem outFrom_eq (f : (cc0_stg5_0 : Ref sig .tc).ty.Contents (Elt F)) (c : Dev nD) : outFrom m ρ f c = outAt m ρ c := by
  funext y
  unfold outAt
  have mem {r : Rect S1x512x1024} (h : y ∈ r.set) : ∃ x, r.emb x = y := by
    rw [← r.map_emb_univ] at h; obtain ⟨x, -, hx⟩ := Finset.mem_map.mp h; exact ⟨x, hx⟩
  rcases cover y with h | h | h | h | h | h <;> obtain ⟨x, rfl⟩ := mem h
  · rw [outFrom_0, outFrom_0]
  · rw [outFrom_1, outFrom_1]
  · rw [outFrom_2, outFrom_2]
  · rw [outFrom_3, outFrom_3]
  · rw [outFrom_4, outFrom_4]
  · rw [outFrom_5, outFrom_5]

end Cert.Exchange

end
-- ==== Proof.Slots.lean ====
/-
# Landing buffers and their slots

A landing buffer, held whatever it holds, is its three slots held whatever they hold.
-/
module

public import proofs.«01_k».proof.Proof.Body
public import proofs.«01_k».proof.Proof.Result
public import Idealize.ShloMosaic.Lib.Ring

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers held whatever they hold -/

/-- A view held at some contents is its elements held at some contents. -/
theorem some_eq (c : Dev nD) {sp : Space} {sh : Shape} {e : EltTy} (M : Memref sig .tc sp sh e) :
    (iprop(∃ X : sh.Idx → Elt F e, own (F := F) c M X) : sProp 𝕄) = iprop(∃ f, M.view.loc (c : Thread nD τ) ↦[M.view.set]{fullShare} f) := by
  have h₁ : (iprop(∃ X : sh.Idx → Elt F e, own (F := F) c M X) : sProp 𝕄) ⊢ iprop(∃ f, M.view.loc (c : Thread nD τ) ↦[M.view.set]{fullShare} f) := by
    unfold own owns
    iintro ⟨%X, %f, -, H⟩; iexists f; iexact H
  have h₂ : (iprop(∃ f, M.view.loc (c : Thread nD τ) ↦[M.view.set]{fullShare} f) : sProp 𝕄) ⊢ iprop(∃ X : sh.Idx → Elt F e, own (F := F) c M X) := by
    iintro ⟨%f, H⟩
    iexists M.view.read (Elt F) f
    unfold own owns
    iexists f; isplitr; · ipureintro; rfl
    iexact H
  exact BI.equiv_iff.mp ⟨h₁, h₂⟩

theorem some_whole (c : Dev nD) (b : Ref sig .tc) :
    (iprop(∃ f : Buf (Elt F) ((c : Thread nD τ).loc b), ((c : Thread nD τ).loc b) ↦{fullShare} f) : sProp 𝕄)
      = iprop(∃ X : b.ty.shape.Idx → Elt F b.ty.elt, own (F := F) c (Memref.whole b) X) := by
  rw [some_eq]
  simp only [Memref.view_whole, View.set_whole]

/-! ## A landing buffer is its three slots -/

variable (c : Dev nD) (b : Ref sig .tc) (r : Fin 3 → Rect b.ty.shape) (hr : ∀ i a, (r i).stride a = 1) (s' : Shape) (hq : ∀ i, (r i).shape.Squeezes s')

/-- Slot `i` of a buffer cut along its first axis. -/
abbrev slotOf (i : Fin 3) : Memref sig .tc b.space s' b.ty.elt := ((Memref.whole b).slice (r i) (hr i)).squeeze s' (hq i)

theorem slotOf_set (i : Fin 3) : (slotOf b r hr s' hq i).view.set = (r i).set := by
  unfold slotOf
  rw [Memref.set_view_squeeze]
  exact View.set_slice_whole b (r i)

theorem split3 (hd : ∀ i j, i ≠ j → Disjoint (r i).set (r j).set) (hc : Finset.univ.biUnion (fun i => (r i).set) = Finset.univ) :
    (iprop(∃ f : Buf (Elt F) ((c : Thread nD τ).loc b), ((c : Thread nD τ).loc b) ↦{fullShare} f) : sProp 𝕄)
      ⊢ bigSep Finset.univ fun i => iprop(∃ X, own (F := F) c (slotOf b r hr s' hq i) X) := by
  iintro ⟨%f, H⟩
  ihave H' := (Entails.of_eq (Ring.pointsTo_blocks (ℓ := (c : Thread nD τ).loc b) (fun i => (r i).set) hd hc f)) $$ H
  have hi (i : Fin 3) : (((c : Thread nD τ).loc b) ↦[(r i).set]{fullShare} f : sProp 𝕄) ⊢ iprop(∃ X, own (F := F) c (slotOf b r hr s' hq i) X) := by
    rw [some_eq, slotOf_set]
    iintro H; iexists f; iexact H
  have hm : (bigSep Finset.univ fun i : Fin 3 => (((c : Thread nD τ).loc b) ↦[(r i).set]{fullShare} f : sProp 𝕄))
      ⊢ bigSep Finset.univ fun i => iprop(∃ X, own (F := F) c (slotOf b r hr s' hq i) X) := bigSep_mono fun i _ => hi i
  iapply hm; iexact H'

theorem join3 (hd : ∀ i j, i ≠ j → Disjoint (r i).set (r j).set) (hc : Finset.univ.biUnion (fun i => (r i).set) = Finset.univ)
    (f₀ : Buf (Elt F) ((c : Thread nD τ).loc b)) :
    (bigSep Finset.univ fun i => iprop(∃ X, own (F := F) c (slotOf b r hr s' hq i) X))
      ⊢ (iprop(∃ f : Buf (Elt F) ((c : Thread nD τ).loc b), ((c : Thread nD τ).loc b) ↦{fullShare} f) : sProp 𝕄) := by
  refine (bigSep_mono fun i _ => ?_).trans (Ring.pointsTo_blocks_join_exists (ℓ := (c : Thread nD τ).loc b) (q := fullShare) (fun i => (r i).set) hd hc f₀)
  rw [some_eq, slotOf_set]
  exact Entails.refl _

/-! ## This kernel's landing buffers -/

theorem disj384 : ∀ i j : Fin 3, i ≠ j → Disjoint (R384 i).set (R384 j).set :=
  Ring.lead_disjoint (s := S3x256x384) 0 1 (fun i => ![i.val, 0, 0]) S1x256x384.size _ (fun i => (Nat.one_mul i.val).symm) rfl
theorem cover384 : Finset.univ.biUnion (fun i : Fin 3 => (R384 i).set) = Finset.univ :=
  Ring.lead_cover (s := S3x256x384) 0 1 (fun i => ![i.val, 0, 0]) S1x256x384.size _ (fun i => (Nat.one_mul i.val).symm)
    (fun i a h => by fin_cases a; exact absurd rfl h; rfl; rfl) rfl (fun a h => by fin_cases a; exact absurd rfl h; rfl; rfl) rfl
theorem disj256 : ∀ i j : Fin 3, i ≠ j → Disjoint (R256 i).set (R256 j).set :=
  Ring.lead_disjoint (s := S3x256x256) 0 1 (fun i => ![i.val, 0, 0]) S1x256x256.size _ (fun i => (Nat.one_mul i.val).symm) rfl
theorem cover256 : Finset.univ.biUnion (fun i : Fin 3 => (R256 i).set) = Finset.univ :=
  Ring.lead_cover (s := S3x256x256) 0 1 (fun i => ![i.val, 0, 0]) S1x256x256.size _ (fun i => (Nat.one_mul i.val).symm)
    (fun i a h => by fin_cases a; exact absurd rfl h; rfl; rfl) rfl (fun a h => by fin_cases a; exact absurd rfl h; rfl; rfl) rfl

/-- A device's landing slots lane by lane, each lane's three. -/
theorem slots_lanes (c : Dev nD) :
    (bigSep Finset.univ fun i : Fin 18 => anySlot (F := F) i c)
      = iprop((bigSep Finset.univ fun s : Fin 3 => iprop(∃ X : V384 F, own (F := F) c (slot384 (Memref.whole cc0_scratch6) s) X))
        ∗ (bigSep Finset.univ fun s : Fin 3 => iprop(∃ X : V384 F, own (F := F) c (slot384 (Memref.whole cc0_scratch7) s) X))
        ∗ (bigSep Finset.univ fun s : Fin 3 => iprop(∃ X : V256 F, own (F := F) c (slot256 (Memref.whole cc0_scratch8) s) X))
        ∗ (bigSep Finset.univ fun s : Fin 3 => iprop(∃ X : V384 F, own (F := F) c (slot384 (Memref.whole cc0_scratch9) s) X))
        ∗ (bigSep Finset.univ fun s : Fin 3 => iprop(∃ X : V384 F, own (F := F) c (slot384 (Memref.whole cc0_scratch10) s) X))
        ∗ (bigSep Finset.univ fun s : Fin 3 => iprop(∃ X : V256 F, own (F := F) c (slot256 (Memref.whole cc0_scratch11) s) X))) := by
  rw [bigSep_univ_equiv (finProdFinEquiv : Fin 6 × Fin 3 ≃ Fin 18), bigSep_univ_prod,
    bigSep_univ_eq_bigSepL [0, 1, 2, 3, 4, 5] (by decide) (by decide)]
  simp only [bigSep_univ_eq_bigSepL [(0 : Fin 3), 1, 2] (by decide) (by decide)]
  rfl

/-- The kernel's own buffers, whatever they hold: the lanes' buffers and the landing slots; -/
theorem rest_split (c : Dev nD) :
    (Pipeline.scopedRest (Ix := Unit) (Name := ℕ) (U := UU) (Lvl := ℕ) (Val := Elt F) spec0 c : sProp 𝕄)
      ⊢ iprop(bufs (F := F) c ∗ bigSep Finset.univ fun i : Fin 18 => anySlot (F := F) i c) := by
  rw [scopedRest0_eq, slots_lanes]
  unfold bufs
  iintro ⟨B0, B1, B2, B3, B4, B5, L0, L1, L2, L3, L4, L5⟩
  isplitl [B0 B1 B2 B3 B4 B5]
  · isplitl [B0]; · iapply (Entails.of_eq (some_whole c cc0_scratch0)); iexact B0
    isplitl [B1]; · iapply (Entails.of_eq (some_whole c cc0_scratch1)); iexact B1
    isplitl [B2]; · iapply (Entails.of_eq (some_whole c cc0_scratch2)); iexact B2
    isplitl [B3]; · iapply (Entails.of_eq (some_whole c cc0_scratch3)); iexact B3
    isplitl [B4]; · iapply (Entails.of_eq (some_whole c cc0_scratch4)); iexact B4
    iapply (Entails.of_eq (some_whole c cc0_scratch5)); iexact B5
  · isplitl [L0]; · iapply (split3 c cc0_scratch6 R384 (fun _ _ => rfl) S256x384 (fun _ => squeezes_S1x256x384_S256x384) disj384 cover384); iexact L0
    isplitl [L1]; · iapply (split3 c cc0_scratch7 R384 (fun _ _ => rfl) S256x384 (fun _ => squeezes_S1x256x384_S256x384) disj384 cover384); iexact L1
    isplitl [L2]; · iapply (split3 c cc0_scratch8 R256 (fun _ _ => rfl) S256x256 (fun _ => squeezes_S1x256x256_S256x256) disj256 cover256); iexact L2
    isplitl [L3]; · iapply (split3 c cc0_scratch9 R384 (fun _ _ => rfl) S256x384 (fun _ => squeezes_S1x256x384_S256x384) disj384 cover384); iexact L3
    isplitl [L4]; · iapply (split3 c cc0_scratch10 R384 (fun _ _ => rfl) S256x384 (fun _ => squeezes_S1x256x384_S256x384) disj384 cover384); iexact L4
    iapply (split3 c cc0_scratch11 R256 (fun _ _ => rfl) S256x256 (fun _ => squeezes_S1x256x256_S256x256) disj256 cover256); iexact L5

/-- and back. -/
theorem rest_join (c : Dev nD) :
    iprop(bufs (F := F) c ∗ bigSep Finset.univ fun i : Fin 18 => anySlot (F := F) i c)
      ⊢ (Pipeline.scopedRest (Ix := Unit) (Name := ℕ) (U := UU) (Lvl := ℕ) (Val := Elt F) spec0 c : sProp 𝕄) := by
  rw [scopedRest0_eq, slots_lanes]
  unfold bufs
  iintro ⟨⟨B0, B1, B2, B3, B4, B5⟩, L0, L1, L2, L3, L4, L5⟩
  isplitl [B0]; · iapply (Entails.of_eq (some_whole c cc0_scratch0).symm); iexact B0
  isplitl [B1]; · iapply (Entails.of_eq (some_whole c cc0_scratch1).symm); iexact B1
  isplitl [B2]; · iapply (Entails.of_eq (some_whole c cc0_scratch2).symm); iexact B2
  isplitl [B3]; · iapply (Entails.of_eq (some_whole c cc0_scratch3).symm); iexact B3
  isplitl [B4]; · iapply (Entails.of_eq (some_whole c cc0_scratch4).symm); iexact B4
  isplitl [B5]; · iapply (Entails.of_eq (some_whole c cc0_scratch5).symm); iexact B5
  isplitl [L0]; · iapply (join3 c cc0_scratch6 R384 (fun _ _ => rfl) S256x384 (fun _ => squeezes_S1x256x384_S256x384) disj384 cover384 (fun _ => FloatOps.ofBits .bf16 0)); iexact L0
  isplitl [L1]; · iapply (join3 c cc0_scratch7 R384 (fun _ _ => rfl) S256x384 (fun _ => squeezes_S1x256x384_S256x384) disj384 cover384 (fun _ => FloatOps.ofBits .bf16 0)); iexact L1
  isplitl [L2]; · iapply (join3 c cc0_scratch8 R256 (fun _ _ => rfl) S256x256 (fun _ => squeezes_S1x256x256_S256x256) disj256 cover256 (fun _ => FloatOps.ofBits .bf16 0)); iexact L2
  isplitl [L3]; · iapply (join3 c cc0_scratch9 R384 (fun _ _ => rfl) S256x384 (fun _ => squeezes_S1x256x384_S256x384) disj384 cover384 (fun _ => FloatOps.ofBits .bf16 0)); iexact L3
  isplitl [L4]; · iapply (join3 c cc0_scratch10 R384 (fun _ _ => rfl) S256x384 (fun _ => squeezes_S1x256x384_S256x384) disj384 cover384 (fun _ => FloatOps.ofBits .bf16 0)); iexact L4
  iapply (join3 c cc0_scratch11 R256 (fun _ _ => rfl) S256x256 (fun _ => squeezes_S1x256x256_S256x256) disj256 cover256 (fun _ => FloatOps.ofBits .bf16 0)); iexact L5

end Cert.Exchange

end
-- ==== Proof.Run.lean ====
/-
# One launch on one device

The kernel's one grid point: what a device starts from, what it ends with, and the step between.
-/
module

public import proofs.«01_k».proof.Proof.Slots

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's data -/

theorem bigSep_fin3 (Φ : Fin 3 → sProp 𝕄) : bigSep Finset.univ Φ = iprop(Φ 0 ∗ Φ 1 ∗ Φ 2) := bigSep_univ_eq_bigSepL [0, 1, 2] (by decide) (by decide) Φ

/-- A device's tokens, credits and positions, with the records of every cell. -/
def start (c : Dev nD) : sProp 𝕄 :=
  iprop((∃ K, world m ρ K) ∗ (dutyTok ER (barCell (flip c 0)) 0 0 ∗ dutyTok ER (barCell (flip c 1)) 0 1 ∗ dutyTok ER (barCell (flip c 2)) 0 2)
    ∗ cred (tallyAt (barCell c) () 3) ∗ atPos ER (barCell c) 0 ∅ 0 ∗ bigSep Finset.univ fun i : Fin 18 => kit (F := F) i c)

def Φ₀ (c : Dev nD) : sProp 𝕄 := iprop(start m ρ c ∗ bufs (F := F) c ∗ bigSep Finset.univ fun i : Fin 18 => anySlot (F := F) i c)
def Φ₁ (c : Dev nD) : sProp 𝕄 :=
  iprop(semVal (barCell c) 0 ∗ (bigSep Finset.univ fun i : Fin 18 => over (F := F) i c) ∗ bufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => wqin m ρ c
    | ⟨2, _⟩ => woin m ρ c
    | ⟨3, _⟩ => wkin m ρ c
    | ⟨4, _⟩ => wvin m ρ c
    | ⟨5, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem fetch_in (w : Fin cfg0.W) (hw : w.val < 5) : (cfg0.win w).fetch t0_0 = true := by
  have : w.val < 6 := w.isLt
  fin_cases w <;> first | rfl | exact absurd hw (by decide)

def bodyPre (c : Dev nD) : sProp 𝕄 :=
  iprop(Φ₀ m ρ c ∗ (dats m ρ 0 c).owesAt () t0_0.castSucc
    ∗ (∃ d, own (F := F) c (Memref.whole cc0_stg0_0) ((dats m ρ 0 c).before (0 : Fin 6) t0_0 d))
    ∗ (∃ d, own (F := F) c (Memref.whole cc0_stg1_0) ((dats m ρ 0 c).before (1 : Fin 6) t0_0 d))
    ∗ (∃ d, own (F := F) c (Memref.whole cc0_stg2_0) ((dats m ρ 0 c).before (2 : Fin 6) t0_0 d))
    ∗ (∃ d, own (F := F) c (Memref.whole cc0_stg3_0) ((dats m ρ 0 c).before (3 : Fin 6) t0_0 d))
    ∗ (∃ d, own (F := F) c (Memref.whole cc0_stg4_0) ((dats m ρ 0 c).before (4 : Fin 6) t0_0 d))
    ∗ (∃ d, own (F := F) c oM ((dats m ρ 0 c).before (5 : Fin 6) t0_0 d)))

def bodyPost (c : Dev nD) : sProp 𝕄 :=
  iprop(Φ₁ (F := F) c ∗ (dats m ρ 0 c).owesAt () t0_0.succ
    ∗ own (F := F) c (Memref.whole cc0_stg0_0) (xin m ρ c) ∗ own (F := F) c (Memref.whole cc0_stg1_0) (wqin m ρ c)
    ∗ own (F := F) c (Memref.whole cc0_stg2_0) (woin m ρ c) ∗ own (F := F) c (Memref.whole cc0_stg3_0) (wkin m ρ c)
    ∗ own (F := F) c (Memref.whole cc0_stg4_0) (wvin m ρ c) ∗ own (F := F) c oM (outAt m ρ c))

theorem body_run (c : Dev nD) : bodyPre m ρ c ⊢ WP c (onBufs (cc0_body (F := F))) (fun _ => bodyPost m ρ c) := by
  unfold bodyPre Φ₀ start
  iintro ⟨⟨⟨⟨%K, #HW⟩, Ht, Hc, Ha, Hkits⟩, Hb, Hs⟩, Ho, ⟨%d0, H0⟩, ⟨%d1, H1⟩, ⟨%d2, H2⟩, ⟨%d3, H3⟩, ⟨%d4, H4⟩, ⟨%d5, H5⟩⟩
  rw [show (dats m ρ 0 c).before (0 : Fin 6) t0_0 d0 = xin m ρ c by unfold Dat.before; rw [if_pos (fetch_in 0 (by decide))]; rfl,
    show (dats m ρ 0 c).before (1 : Fin 6) t0_0 d1 = wqin m ρ c by unfold Dat.before; rw [if_pos (fetch_in 1 (by decide))]; rfl,
    show (dats m ρ 0 c).before (2 : Fin 6) t0_0 d2 = woin m ρ c by unfold Dat.before; rw [if_pos (fetch_in 2 (by decide))]; rfl,
    show (dats m ρ 0 c).before (3 : Fin 6) t0_0 d3 = wkin m ρ c by unfold Dat.before; rw [if_pos (fetch_in 3 (by decide))]; rfl,
    show (dats m ρ 0 c).before (4 : Fin 6) t0_0 d4 = wvin m ρ c by unfold Dat.before; rw [if_pos (fetch_in 4 (by decide))]; rfl]
  unfold Dat.owesAt Pipeline.owesWithin
  icases Ho with ⟨%W, %hW, HO⟩
  rw [show (dats m ρ 0 c).owed t0_0.castSucc = O₀ c from rfl]
  iapply (body m ρ K c ((dats m ρ 0 c).before (5 : Fin 6) t0_0 d5)) $$ HW [HO Ht Hs Hc Ha Hkits] [H0 H1 H2 H3 H4] Hb H5
  · unfold entry owesAny
    isplitl [HO]; · iexists W; iexact HO
    isplitl [Ht]; · iexact Ht
    isplitl [Hs]; · iexact Hs
    isplitl [Hc]; · iexact Hc
    isplitl [Ha]; · iexact Ha
    iexact Hkits
  · unfold operands
    isplitl [H0]; · iexact H0
    isplitl [H1]; · iexact H1
    isplitl [H2]; · iexact H2
    isplitl [H3]; · iexact H3
    iexact H4
  unfold exit operands owesAny bodyPost Φ₁
  iintro ⟨⟨%W', HO⟩, ⟨H0, H1, H2, H3, H4⟩, Hv, Hov, Hb, H5⟩
  isplitl [Hv Hov Hb]
  · isplitl [Hv]; · iexact Hv
    isplitl [Hov]; · iexact Hov
    iexact Hb
  isplitl [HO]
  · unfold Dat.owesAt Pipeline.owesWithin
    iexists W'
    isplitr; · ipureintro; exact fun _ _ => Or.inl trivial
    rw [show (dats m ρ 0 c).owed t0_0.succ = 0 from rfl]
    iexact HO
  isplitl [H0]; · iexact H0
  isplitl [H1]; · iexact H1
  isplitl [H2]; · iexact H2
  isplitl [H3]; · iexact H3
  isplitl [H4]; · iexact H4
  rw [outFrom_eq]
  iexact H5

/-- The library's body obligation. -/
theorem body_obligation (c : Dev nD) : BodyObligation (dats (F := F) m ρ 0 c) (defs₀ (F := F)) 𝒱₀ () Set.univ := fun t => by
  rw [fin_N0 t, bigSep_W0, bigSep_W0]
  exact body_run m ρ c

end Cert.Exchange

end
-- ==== Proof.Ghost.lean ====
/-
# The launch's ghost state

Every cell's record is made at the launch; every token is dealt to the device that pays with it.
-/
module

public import proofs.«01_k».proof.Proof.Run

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem sendS_inj {i j : Fin 18} (h : sendS i = sendS j) : i = j := by rw [← idx_send i, h, idx_send]
theorem recvS_inj {i j : Fin 18} (h : recvS i = recvS j) : i = j := by rw [← idx_recv i, h, idx_recv]
theorem send_ne_recv (i j : Fin 18) : sendS i ≠ recvS j := fun h => by
  have h' : 6 + i.val = 24 + j.val := congrArg Fin.val h
  omega

theorem osem_inj : Function.Injective osem := by
  rintro (i | i) (j | j) h
  · rw [sendS_inj (SemLoc.dma.inj h)]
  · exact absurd (SemLoc.dma.inj h) (send_ne_recv i j)
  · exact absurd (SemLoc.dma.inj h).symm (send_ne_recv j i)
  · rw [recvS_inj (SemLoc.dma.inj h)]
theorem csem_inj : Function.Injective csem := by
  rintro (u | o) (u' | o') h
  · rfl
  · rcases o' with i | i <;> exact absurd h (by intro h'; cases h')
  · rcases o with i | i <;> exact absurd h (by intro h'; cases h')
  · rw [osem_inj h]
theorem kcell_inj : Function.Injective (kcell : Dev nD × KCell → GSem nD τ sig) := by
  rintro ⟨c, k⟩ ⟨c', k'⟩ h
  have h₁ : c = c' := congrArg (fun g : GSem nD τ sig => g.1.1) h
  subst h₁
  have h₂ : k = k' := csem_inj (congrArg Prod.snd h)
  rw [h₂]
def theCells : Finset (GSem nD τ sig) := Finset.univ.map ⟨kcell, kcell_inj⟩

/-- A device's own cells' duty tokens: its barrier's three, one of every send and every receive cell. -/
abbrev tokOf (x : Dev nD × (Fin 3 ⊕ OCell)) : GSem nD τ sig × ℕ × Fin 3 := match x.2 with
  | .inl k => (barCell x.1, 0, k)
  | .inr o => (kcell (x.1, .inr o), 0, 0)
theorem tokOf_inj : Function.Injective tokOf := by
  rintro ⟨c, x⟩ ⟨c', x'⟩ h
  have h₁ : c = c' := by
    have := congrArg (fun x : GSem nD τ sig × ℕ × Fin 3 => x.1.1.1) h
    rcases x with k | o <;> rcases x' with k' | o' <;> exact this
  subst h₁
  have h₂ := congrArg (fun x : GSem nD τ sig × ℕ × Fin 3 => x.1.2) h
  have h₃ := congrArg (fun x : GSem nD τ sig × ℕ × Fin 3 => x.2.2) h
  rcases x with k | o <;> rcases x' with k' | o'
  · exact congrArg (fun k => (c, Sum.inl k)) h₃
  · exact absurd (csem_inj (a₁ := .inl ()) (a₂ := .inr o') h₂) (by intro h'; cases h')
  · exact absurd (csem_inj (a₁ := .inr o) (a₂ := .inl ()) h₂) (by intro h'; cases h')
  · rw [osem_inj h₂]
def theToks : Finset (GSem nD τ sig × ℕ × Fin 3) := Finset.univ.map ⟨tokOf, tokOf_inj⟩

def u₀ : UU := (initOf (Pipeline.cells cfgs cellOf_inj) (Pipeline.launchToks cfgs cellOf_inj), initOf theCells theToks)

def toks (c : Dev nD) : sProp 𝕄 :=
  iprop((bigSep Finset.univ fun k : Fin 3 => dutyTok ER (barCell c) 0 k) ∗ (bigSep Finset.univ fun i : Fin 18 => dutyTok ER (sendCell i c) 0 0)
    ∗ bigSep Finset.univ fun i : Fin 18 => dutyTok ER (recvCell i c) 0 0)
/-- The tokens of the duties a device itself pays. -/
def payToks (c : Dev nD) : sProp 𝕄 :=
  iprop((bigSep Finset.univ fun k : Fin 3 => dutyTok ER (barCell (flip c k)) 0 k) ∗ (bigSep Finset.univ fun i : Fin 18 => dutyTok ER (sendCell i c) 0 0)
    ∗ bigSep Finset.univ fun i : Fin 18 => dutyTok ER (recvCell i (peer i c)) 0 0)

/-- What the launch deals device `c`: its cells' states and positions, its own cells' tokens. -/
def G (c : Dev nD) : sProp 𝕄 :=
  iprop((bigSep Finset.univ fun k : KCell => roundState ER (sched m ρ) (kcell (c, k)) 0)
    ∗ ((bigSep Finset.univ fun k : KCell => atPos ER (kcell (c, k)) 0 ∅ 0) ∗ bigSep Finset.univ fun k : KCell => reached ER (kcell (c, k)) 0) ∗ toks (F := F) c)

/-- The cells' invariants and marks, everybody's. -/
def records (K : Dev nD × KCell → ℕ) : sProp 𝕄 :=
  iprop((bigSep Finset.univ fun ck => cellInv ER (sched m ρ) (K ck) (kcell ck)) ∗ bigSep Finset.univ fun ck => reached ER (kcell ck) 0)
instance records_persistent (K : Dev nD × KCell → ℕ) : BI.Persistent (records m ρ K) := by unfold records; infer_instance

/-- A device's own positions and the tokens it pays with. -/
def linear (c : Dev nD) : sProp 𝕄 := iprop((bigSep Finset.univ fun k : KCell => atPos ER (kcell (c, k)) 0 ∅ 0) ∗ payToks (F := F) c)
def G' (c : Dev nD) : sProp 𝕄 := iprop(∃ K, records m ρ K ∗ linear (F := F) c)

theorem bigSep_kcell (Φ : KCell → sProp 𝕄) :
    bigSep Finset.univ Φ = iprop(Φ (.inl ()) ∗ (bigSep Finset.univ fun i => Φ (.inr (.inl i))) ∗ bigSep Finset.univ fun i => Φ (.inr (.inr i))) := by
  rw [bigSep_univ_sum, bigSep_univ_sum, bigSep_univ_of_subsingleton ()]
  rfl

theorem fund_all : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : KCell => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks (F := F) c := by
    unfold theToks; rw [bigSep_map, bigSep_univ_prod]
    exact bigSep_congr fun c _ => by unfold toks; rw [bigSep_univ_sum, bigSep_univ_sum]; rfl
  iintro HX
  imod (Rounds.fund ER (sched m ρ) theCells theToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores at zero -/

theorem ownSems0_eq (c : Dev nD) : (Pipeline.ownSems0 (Ix := Unit) (Name := ℕ) (U := UU) (Lvl := ℕ) (Val := Elt F) (τ := τ) osem c : sProp 𝕄)
    = iprop((bigSep Finset.univ fun i : Fin 18 => semVal (sendCell i c) 0) ∗ bigSep Finset.univ fun i : Fin 18 => semVal (recvCell i c) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ ((bigSep Finset.univ fun k : KCell => atPos ER (kcell (c, k)) 0 ∅ 0) ∗ bigSep Finset.univ fun k : KCell => reached ER (kcell (c, k)) 0) ∗ toks (F := F) c) := by
  unfold G
  rw [ownSems0_eq, unscopedSems0_eq]
  iintro ⟨⟨HS, HV⟩, HB, Hst, Hat, Htok⟩
  imod (show iprop((bigSep Finset.univ fun k : KCell => semVal (kcell (c, k)) 0) ∗ bigSep Finset.univ fun k : KCell => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [HS HV HB Hst] with Hinv
  · isplitl [HS HV HB]
    · rw [bigSep_kcell]
      isplitl [HB]; · iexact HB
      isplitl [HS]; · iexact HS
      iexact HV
    iexact Hst
  imodintro
  isplitl [Hinv]; · iexact Hinv
  isplitl [Hat]; · iexact Hat
  iexact Htok

/-! ## The tokens dealt to those who pay with them -/

/-- Along a permutation of the devices for each index, all devices' shares together are the same. -/
theorem deal {I : Type} [Fintype I] (e : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (e i c) i := by
  rw [Pipeline.bigSep_univ_comm, Pipeline.bigSep_univ_comm (fun c i => Φ (e i c) i)]
  exact bigSep_congr fun i _ => bigSep_univ_equiv (e i) fun c => Φ c i

theorem toks_dealt : (bigSep Finset.univ fun c : Dev nD => toks (F := F) c) = bigSep Finset.univ fun c : Dev nD => payToks (F := F) c := by
  unfold toks payToks
  rw [bigSep_sep', bigSep_sep', bigSep_sep', bigSep_sep', deal flipE (fun c k => dutyTok ER (barCell c) 0 k), deal peerE (fun c i => dutyTok ER (recvCell i c) 0 0)]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ ((bigSep Finset.univ fun k : KCell => atPos ER (kcell (c, k)) 0 ∅ 0) ∗ bigSep Finset.univ fun k : KCell => reached ER (kcell (c, k)) 0) ∗ toks (F := F) c) : sProp 𝕄)
      ⊢ bigSep Finset.univ (G' m ρ) := by
  rw [bigSep_sep', bigSep_sep', bigSep_sep', ← bigSep_univ_prod (fun ck : Dev nD × KCell => iprop(∃ κ : ℕ, cellInv ER (sched m ρ) κ (kcell ck))),
    ← bigSep_univ_prod (fun ck : Dev nD × KCell => (reached ER (kcell ck) 0 : sProp 𝕄)), toks_dealt]
  iintro ⟨HI, ⟨Hat, #HR⟩, Htok⟩
  ihave HK := (BI.bigSep_exists_pi Finset.univ (fun (ck : Dev nD × KCell) (κ : ℕ) => (cellInv ER (sched m ρ) κ (kcell ck) : sProp 𝕄))) $$ HI
  icases HK with ⟨%K, #HI⟩
  have hg (c : Dev nD) : iprop(records m ρ K ∗ linear (F := F) c) ⊢ G' m ρ c := by
    unfold G'; iintro ⟨HR, HL⟩; iexists K; isplitl [HR] <;> iassumption
  iapply (with_persistent (R := records m ρ K) fun c _ => hg c)
  isplitr
  · unfold records; isplitl; · iexact HI
    iexact HR
  · unfold linear; rw [bigSep_sep']
    isplitl [Hat]; · iexact Hat
    iexact Htok

/-- All devices' semaphores and shares at once become all devices' records, positions and tokens. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Exchange

end
-- ==== Proof.Launch.lean ====
/-
# The launch

The launch's credit, its remaining conditions, and the run of all eight devices.
-/
module

public import proofs.«01_k».proof.Proof.Ghost
public import Idealize.ShloMosaic.Lib.Pipeline.CollectiveSegs

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem oweL_bar (d c : Dev nD) (js : List (Fin 18)) : oweL d js (barCell c) () = 0 := by
  induction js with
  | nil => rfl
  | cons j js ih =>
    unfold oweL
    rw [Pi.add_apply, Finsupp.add_apply, ih, tallyAt_ne_cell (fun h => by cases congrArg Prod.snd h)]
    rfl

theorem recv_eq_iff {i j : Fin 18} {a b : Dev nD} : (recvCell i a = recvCell j b) ↔ (i = j ∧ a = b) :=
  ⟨fun h => ⟨recvS_inj (SemLoc.dma.inj (congrArg Prod.snd h)), congrArg (fun g : GSem nD τ sig => g.1.1) h⟩, fun ⟨h, h'⟩ => by rw [h, h']⟩
theorem bar_eq_iff {a b : Dev nD} : (barCell a = barCell b) ↔ a = b := ⟨fun h => congrArg (fun g : GSem nD τ sig => g.1.1) h, fun h => h ▸ rfl⟩

theorem oweL_recv (d c : Dev nD) (i : Fin 18) (js : List (Fin 18)) :
    oweL d js (recvCell i c) () = if d = peer i c then js.count i * N i else 0 := by
  induction js with
  | nil => rw [List.count_nil, Nat.zero_mul, ite_self]; rfl
  | cons j js ih =>
    unfold oweL
    rw [Pi.add_apply, Finsupp.add_apply, ih, tallyAt_apply, List.count_cons]
    by_cases hj : j = i
    · subst hj
      by_cases hd : d = peer j c
      · rw [if_pos hd, if_pos hd, if_pos ⟨recv_eq_iff.mpr ⟨rfl, by rw [hd, peer_peer]⟩, rfl⟩, if_pos (by simp), Nat.add_mul, Nat.one_mul]
      · rw [if_neg hd, if_neg hd, if_neg (fun h => hd (by rw [(recv_eq_iff.mp h.1).2, peer_peer]))]
    · have hn : ¬ (recvCell i c = recvCell j (peer j d) ∧ () = ()) := fun h => hj (recv_eq_iff.mp h.1).1.symm
      have hb : ¬ (j == i) = true := by simpa using hj
      rw [if_neg hn, if_neg hb, Nat.add_zero, Nat.add_zero]

theorem flip_eq_iff {k : Fin 3} {c d : Dev nD} : (c = flip d k) ↔ d = flip c k :=
  ⟨fun h => by rw [h, flip_flip], fun h => by rw [h, flip_flip]⟩

theorem owed_bar (d c : Dev nD) :
    O₀ d (barCell c) () = (if d = flip c 2 then 1 else 0) + (if d = flip c 1 then 1 else 0) + (if d = flip c 0 then 1 else 0) := by
  unfold O₀ O₁ O₂
  simp only [Pi.add_apply, Finsupp.add_apply, oweL_bar, tallyAt_apply, bar_eq_iff, and_true, flip_eq_iff (c := c), Nat.zero_add]

theorem owed_recv (d c : Dev nD) (i : Fin 18) : O₀ d (recvCell i c) () = if d = peer i c then N i else 0 := by
  unfold O₀ O₁ O₂
  simp only [Pi.add_apply, Finsupp.add_apply, oweL_recv]
  rw [tallyAt_ne_cell (fun h => by cases congrArg Prod.snd h), tallyAt_ne_cell (fun h => by cases congrArg Prod.snd h), tallyAt_ne_cell (fun h => by cases congrArg Prod.snd h),
    show sendOrder.count i = 1 by revert i; decide, Nat.one_mul]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_recv (i : Fin 18) (c : Dev nD) :
    tallyOn (recvCell i c) (launchCredit (Pipeline.owing O₀) 0 (recvCell i c)) = (tallyAt (recvCell i c) () (N i) : CellTallies nD τ sig Unit) := by
  unfold tallyAt; refine congrArg _ (Finsupp.ext fun u => ?_); cases u
  rw [Pipeline.launchCredit_owing, Finsupp.single_eq_same, Finset.sum_congr rfl fun d _ => owed_recv d c i]
  simp only [Finset.sum_ite_eq', Finset.mem_univ, if_true]

/-- The semaphores a device waits on. -/
abbrev credSem : Unit ⊕ Fin 18 → SemLoc sig := fun | .inl _ => .reg barS | .inr i => .dma (recvS i)
theorem credSem_inj : Function.Injective credSem := by
  rintro (u | i) (u' | j) h
  · rfl
  · cases h
  · cases h
  · rw [recvS_inj (SemLoc.dma.inj h)]

theorem creds (c : Dev nD) :
    (Pipeline.launchCred O₀ c : sProp 𝕄) ⊢ iprop(cred (tallyAt (barCell c) () 3) ∗ bigSep Finset.univ fun i : Fin 18 => cred (tallyAt (recvCell i c) () (N i))) := by
  unfold Pipeline.launchCred
  have h₁ : bigSep (Finset.univ.map ⟨credSem, credSem_inj⟩) (fun sm => (cred (tallyOn ((c : Thread nD τ), sm) (launchCredit (Pipeline.owing O₀) 0 ((c : Thread nD τ), sm))) : sProp 𝕄))
      = iprop(cred (tallyAt (barCell c) () 3) ∗ bigSep Finset.univ fun i : Fin 18 => cred (tallyAt (recvCell i c) () (N i))) := by
    rw [bigSep_map, bigSep_univ_sum, bigSep_univ_of_subsingleton (), ← launch_bar]
    simp only [← launch_recv]
    rfl
  rw [← h₁]
  exact bigSep_subset (Finset.subset_univ _)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HcB, HcR⟩
  unfold G' records linear payToks
  icases HG with ⟨%K, ⟨HI, HR⟩, Hat, HtB, HtS, HtR⟩
  ihave Hat := (Entails.of_eq (bigSep_kcell fun k => atPos ER (kcell (c, k)) 0 ∅ 0)) $$ Hat
  icases Hat with ⟨HaB, HaS, HaR⟩
  imodintro
  unfold start
  isplitl
  · isplitl [HI HR Hlev]
    · iexists K; unfold world
      isplitl [HI]; · iexact HI
      isplitl [HR]; · iexact HR
      iexact Hlev
    isplitl [HtB]
    · iapply (Entails.of_eq (bigSep_fin3 (F := F) fun k => dutyTok ER (barCell (flip c k)) 0 k)); iexact HtB
    isplitl [HcB]; · iexact HcB
    isplitl [HaB]; · iexact HaB
    unfold kit; simp only [bigSep_sep']
    isplitl [HaS]; · iexact HaS
    isplitl [HaR]; · iexact HaR
    isplitl [HtS]; · iexact HtS
    isplitl [HtR]; · iexact HtR
    iexact HcR
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (rest_split (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq]
  unfold Φ₁ over fin
  rw [bigSep_sep', bigSep_sep']
  iintro ⟨HB, ⟨⟨HS, HV⟩, Hs⟩, Hb⟩
  isplitl [HB]; · iexact HB
  isplitl [HS HV]
  · isplitl [HS] <;> iassumption
  iapply (rest_join (F := F) c)
  isplitl [Hb] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem ownSemFacts : Pipeline.OwnSemFacts cfg0.spec osem := by decide

theorem share_eq (c : Dev nD) (w : Fin cfg0.W) : (dats m ρ 0 c).share w = fullShare := by unfold Dat.share; split <;> rfl

/-! ## The run -/

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, for any float values: every fair execution of the eight kernels terminates, with
    every window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Frames.lean ====
/-
# What a run leaves

The kernel's run, argument by argument, and the claims that it runs and leaves its arguments.
-/
module

public import proofs.«01_k».proof.Proof.Launch
public import proofs.«01_k».proof.Defs
public import proofs.«01_k».proof.Proof.Gen.Kernel
public import proofs.«01_k».proof.Proof.Gen.Kernel.Frame
public import proofs.«01_k».proof.Proof.Gen.ReferenceIdeal.Run

@[expose] public section

set_option maxRecDepth 65536

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The arguments end as they were, every counter at zero, the result at the run's final contents. -/
theorem run_frame : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ c : Dev nD, r.2.mem ((c.tc : Thread nD τ).loc main_v1) = finalA m ρ c (5 : Fin 6)) :=
  (θ_run defs _ _).mono (fun _ h => ⟨⟨fun c => ⟨(h.1 c (0 : Fin 6)).trans ((dats (F := F) m ρ 0 c).arrAt_in (0 : Fin 6) rfl _),
      (h.1 c (1 : Fin 6)).trans ((dats (F := F) m ρ 0 c).arrAt_in (1 : Fin 6) rfl _),
      (h.1 c (3 : Fin 6)).trans ((dats (F := F) m ρ 0 c).arrAt_in (3 : Fin 6) rfl _),
      (h.1 c (4 : Fin 6)).trans ((dats (F := F) m ρ 0 c).arrAt_in (4 : Fin 6) rfl _),
      (h.1 c (2 : Fin 6)).trans ((dats (F := F) m ρ 0 c).arrAt_in (2 : Fin 6) rfl _)⟩, h.2⟩, fun c => h.1 c (5 : Fin 6)⟩) (run_main m ρ)

end Cert.Exchange

namespace Cert.Exchange

open Idealize.ShloMosaic Idealize.SL.Sem

/-! The kernel and its idealization are one text: no rewrite was applied. -/

section Same
variable {F : FTy → Type} [FloatOps F]

theorem bodies_same : (Cert.Kernel.defs₀ (F := F)) = (Cert.KernelIdeal.defs₀ (F := F)) := by
  unfold Cert.Kernel.defs₀ Cert.KernelIdeal.defs₀
  refine congrArg Defs.onTc (funext fun l => ?_)
  match l with
  | 0 => rfl
theorem defs_same : (Cert.Kernel.defs (F := F)) = (Cert.KernelIdeal.defs (F := F)) := congrArg (Pipeline.defs (Cert.KernelIdeal.pcfgs (F := F))) bodies_same

end Same

theorem frame_kernel : Cert.quiescent_Kernel := fun m ρ _ => by
  rw [defs_same]
  exact (θ_run Cert.KernelIdeal.defs _ _).mono (fun _ h => h.1) (run_frame (F := Bits) m ρ)
theorem frame_ideal : Cert.quiescent_KernelIdeal := fun m ρ _ =>
  (θ_run Cert.KernelIdeal.defs _ _).mono (fun _ h => h.1) (run_frame (F := Ideal) m ρ)
theorem frame_ideal_finite [Cert.Pre_finite_KernelIdeal.Facts] : Cert.quiescent_KernelIdeal_pre_finite_KernelIdeal := fun m ρ _ =>
  (θ_run Cert.KernelIdeal.defs _ _).mono (fun _ h => h.1) (run_frame (F := Ideal) m ρ)

/-- The reference's run reads its arguments only, and it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_reference_finite [Cert.Pre_finite_ReferenceIdeal.Facts] : Cert.quiescent_ReferenceIdeal_pre_finite_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Exchange

end
-- ==== Proof.Equation.lean ====
/-
# The equation over the reals

A weighted mean whose weights are exponentials is the same whether or not the row's greatest score is taken from every
score first, provided the scores are real numbers; a scale may stand inside or outside a dot product of
real numbers; and a sum over 8192 columns is a sum over 8 devices of sums over 1024.
-/
module

public import Idealize.ShloMosaic.Lib.Pointwise
public import Idealize.ShloMosaic.Lib.IdealHost

@[expose] public section

noncomputable section

namespace Cert.Exchange

open Idealize.ShloMosaic

/-- An extended real that is a real number. -/
def IsReal (x : EReal) : Prop := ∃ r : ℝ, x = r

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.sum {n : ℕ} {f : Fin n → EReal} (hf : ∀ i, IsReal (f i)) : IsReal (∑ i, f i) := by
  choose g hg using hf
  exact ⟨∑ i, g i, by rw [coe_sum]; exact Finset.sum_congr rfl fun i _ => hg i⟩

/-- What `|x| < ∞` says. -/
theorem isReal_of_abs_lt {x : EReal} (h : max x (-x) < ⊤) : IsReal x := by
  induction x using EReal.rec with
  | bot => simp at h
  | coe r => exact ⟨r, rfl⟩
  | top => simp at h

/-- The scale of the scores is a real number. -/
theorem isReal_scale : IsReal (Ideal.ofBits .f32 0x3DB504F3#32) := by
  show IsReal (Ideal.ieee 8 23 (0x3DB504F3#32 : BitVec 32))
  unfold Ideal.ieee
  dsimp only
  rw [if_neg (by decide), if_neg (by decide)]
  exact ⟨_, rfl⟩
/-- The greatest score starts from −∞. -/
theorem ofBits_bot : Ideal.ofBits .f32 0xFF800000#32 = ⊥ := by
  show Ideal.ieee 8 23 (0xFF800000#32 : BitVec 32) = ⊥
  unfold Ideal.ieee
  dsimp only
  rw [if_pos (by decide), if_pos (by decide), if_pos (by decide)]
/-- The word the finiteness test compares with is +∞. -/
theorem ofBits_top : Ideal.ofBits .bf16 0x7F80#16 = ⊤ := by
  show Ideal.ieee 8 7 (0x7F80#16 : BitVec 16) = ⊤
  unfold Ideal.ieee
  dsimp only
  rw [if_pos (by decide), if_pos (by decide), if_neg (by decide)]

/-- A scale inside a dot product is a scale outside. -/
theorem scaled_dot {n : ℕ} {c : EReal} (hc : IsReal c) {q k : Fin n → EReal} (hq : ∀ e, IsReal (q e)) (hk : ∀ e, IsReal (k e)) :
    ∑ e, q e * c * k e = (∑ e, q e * k e) * c := by
  obtain ⟨c, rfl⟩ := hc
  choose q' hq' using hq
  choose k' hk' using hk
  simp only [hq', hk', ← EReal.coe_mul, ← coe_sum]
  rw [Finset.sum_mul]
  exact congrArg _ (Finset.sum_congr rfl fun e _ => by ring)

/-- The mean of `v` with weights `exp s`. -/
def weigh (s v : Fin 512 → EReal) : EReal := Ideal.div (∑ j, Ideal.exp (s j) * v j) (∑ j, Ideal.exp (s j))

/-- The same with the greatest score taken from every score first. -/
def weighTop (s v : Fin 512 → EReal) : EReal :=
  Ideal.div (∑ j, v j * Ideal.exp (s j - Finset.univ.fold max (Ideal.ofBits .f32 0xFF800000#32) s))
    (∑ j, Ideal.exp (s j - Finset.univ.fold max (Ideal.ofBits .f32 0xFF800000#32) s))

/-- Of real scores the greatest is real. -/
theorem isReal_top {s : Fin 512 → EReal} (hs : ∀ j, IsReal (s j)) : IsReal (Finset.univ.fold max (Ideal.ofBits .f32 0xFF800000#32) s) := by
  rw [ofBits_bot]
  obtain ⟨j, -, e⟩ := Finset.exists_mem_eq_sup Finset.univ ⟨(0 : Fin 512), Finset.mem_univ _⟩ s
  show IsReal (Finset.univ.sup s)
  rw [e]
  exact hs j

/-- A nonnegative real factor comes out of a sum of any extended reals. -/
theorem sum_mul_coe {n : ℕ} (f : Fin n → EReal) {t : ℝ} (ht : 0 ≤ t) : (∑ j, f j) * (t : EReal) = ∑ j, f j * (t : EReal) := by
  induction n with
  | zero => simp
  | succ n ih =>
    rw [Fin.sum_univ_succ, Fin.sum_univ_succ, EReal.right_distrib_of_nonneg_of_ne_top (EReal.coe_nonneg.2 ht) (EReal.coe_ne_top t), ih]

/-- With real scores the two means agree, whatever the values. -/
theorem weighTop_eq {s v : Fin 512 → EReal} (hs : ∀ j, IsReal (s j)) : weighTop s v = weigh s v := by
  unfold weighTop weigh
  obtain ⟨μ, hμ⟩ := isReal_top hs
  rw [hμ]
  choose σ hσ using hs
  have pos : (∑ j, Real.exp (σ j)) ≠ 0 := (Finset.sum_pos (fun j _ => Real.exp_pos _) ⟨(0 : Fin 512), Finset.mem_univ _⟩).ne'
  have shift (j : Fin 512) : Real.exp (σ j - μ) = Real.exp (σ j) * Real.exp (-μ) := by rw [sub_eq_add_neg, Real.exp_add]
  have e₁ : (∑ j, v j * ((Real.exp (σ j - μ) : ℝ) : EReal)) = (∑ j, ((Real.exp (σ j) : ℝ) : EReal) * v j) * ((Real.exp (-μ) : ℝ) : EReal) := by
    rw [sum_mul_coe _ (Real.exp_pos _).le]
    exact Finset.sum_congr rfl fun j _ => by rw [shift, EReal.coe_mul, mul_left_comm, mul_assoc]
  have e₂ : (∑ j, Real.exp (σ j - μ)) = (∑ j, Real.exp (σ j)) * Real.exp (-μ) := by
    rw [Finset.sum_mul]
    exact Finset.sum_congr rfl fun j _ => shift j
  have h' := (Real.exp_pos (-μ)).ne'
  simp only [hσ, ← EReal.coe_sub, Ideal.exp_coe, ← coe_sum, e₁, e₂]
  rw [Ideal.div_coe (mul_ne_zero pos h'), Ideal.div_coe pos, mul_assoc, ← EReal.coe_mul]
  congr 2
  field_simp

/-- A sum over all columns, device by device. -/
theorem sum_devices (g : Fin 8192 → EReal) : ∑ k, g k = ∑ c : Fin 8, ∑ k : Fin 1024, g ⟨1024 * c.val + k.val, by omega⟩ := by
  rw [← Fintype.sum_prod_type']
  refine (Fintype.sum_equiv (finProdFinEquiv (m := 8) (n := 1024)) _ _ fun p => congrArg g (Fin.ext ?_)).symm
  exact Nat.add_comm _ _

end Cert.Exchange

end
-- ==== Proof.Finite.lean ====
/-
# The precondition read back

The shape relations the two readings of the precondition state, and what the precondition says of each entry: it is a
real number.
-/
module

public import proofs.«01_k».proof.Pre_finite_KernelIdeal
public import proofs.«01_k».proof.Pre_finite_ReferenceIdeal
public import proofs.«01_k».proof.Proof.Equation
public import Idealize.ShloMosaic.Lib.ReduceAll

@[expose] public section

set_option maxRecDepth 16384

noncomputable section

namespace Cert.Exchange

open Idealize.ShloMosaic

theorem facts_finite : Cert.Pre_finite_KernelIdeal.Facts :=
  ⟨by decide, by decide, by decide, by decide, by decide⟩
theorem facts_finite_reference : Cert.Pre_finite_ReferenceIdeal.Facts :=
  ⟨by decide, by decide, by decide, by decide, by decide⟩

section Finite
open Cert.Pre_finite_KernelIdeal Cert.Pre_finite_KernelIdeal.Facts
variable [Cert.Pre_finite_KernelIdeal.Facts]

/-- One comparison of the precondition: the entry is a real number. -/
theorem real_of_cmp {s : Shape} {x : FVec Ideal s .bf16} {hb} {i : s.Idx}
    (h : cmpf .olt (Host.absf x) (broadcastInDim s ![] hb (constant S_ .bf16 0x7F80#16)) i = 1#1) : IsReal (x i) := by
  have h' : Ideal.cmp .olt (max (x i) (-(x i))) (Ideal.ofBits .bf16 0x7F80#16) = 1#1 := h
  rw [ofBits_top] at h'
  by_contra hn
  have hlt : ¬ max (x i : EReal) (-(x i)) < ⊤ := fun hlt => hn (isReal_of_abs_lt hlt)
  unfold Ideal.cmp at h'
  simp only [decide_eq_false hlt] at h'
  exact absurd h' (by decide)

theorem finite_args (x : FVec Ideal S1x512x1024 .bf16) (w₁ w₂ w₃ w₄ : FVec Ideal S1024x1024 .bf16)
    (h : Cert.Pre_finite_KernelIdeal.fn (F := Ideal) x w₁ w₂ w₃ w₄ = fun _ => 1#1) :
    (∀ i, IsReal (x i)) ∧ (∀ i, IsReal (w₁ i)) ∧ ∀ i, IsReal (w₂ i) := by
  have e := congrFun h (fun a => a.elim0)
  unfold Cert.Pre_finite_KernelIdeal.fn at e
  obtain ⟨e, e₂⟩ := IntOp.andi_eq_one.1 e
  obtain ⟨e₀, e₁⟩ := IntOp.andi_eq_one.1 e
  haveI : Subsingleton S_.Idx := ⟨fun a b => funext fun k => k.elim0⟩
  exact ⟨fun i => real_of_cmp (Host.reduce_andi_all _ _ _ _ _ e₀ i), fun i => real_of_cmp (Host.reduce_andi_all _ _ _ _ _ e₁ i),
    fun i => real_of_cmp (Host.reduce_andi_all _ _ _ _ _ e₂ i)⟩

end Finite

end Cert.Exchange

end
-- ==== Proof.Attention.lean ====
/-
# A device's partial product at an index

Each half of a device's partial product is eight heads side by side, times the output weights. A head is read at an
index as the mean of the values weighted by the exponentials of the scores.
-/
module

public import proofs.«01_k».proof.Proof.Protocol
public import proofs.«01_k».proof.Proof.Equation
public import Idealize.ShloMosaic.Lib.Pipeline.Value

@[expose] public section

set_option maxRecDepth 16384

noncomputable section

namespace Cert.Exchange

open Cert.KernelIdeal Cert.KernelIdeal.Gen

open Idealize.ShloMosaic
open Idealize.ShloMosaic.TcCoe

section Steps
variable {F : FTy → Type} [FloatOps F]

/-- One head, of 256 rows of queries and all keys and values. -/
def head (q : FVec F S256x128 .bf16) (k v : FVec F S512x128 .bf16) : FVec F S256x128 .bf16 :=
  have p : FVec F S256x512 .f32 := exp (matmul dot_S256x128_S512x128_S256x512_1_1_0_0_n_n none q k (constant S256x512 .f32 0x00000000#32))
  truncf .bf16 (divf (matmul dot_S256x512_S512x128_S256x128_1_0_0_1_n_n none (truncf .bf16 p bitsLt_bf16_f32) v (constant S256x128 .f32 0x00000000#32))
    (broadcastTo S256x128 (shapeCast S256x1 (multiReduction .add [1] S256 p 0x00000000#32 reduces_S256x512_S256 (.inl rfl) rfl) shapeCasts_S256_S256x1) broadcasts_S256x1_S256x128)) bitsLt_bf16_f32

theorem slices_q (b : Fin 2) (h : Fin 8) : S512x1024.Slices ![256 * b.val, 128 * h.val] S256x128 := by revert b h; decide
theorem slices_k (h : Fin 8) : S512x1024.Slices ![0, 128 * h.val] S512x128 := by revert h; decide

/-- Head `h` of row half `b`. -/
def headAt (b : Fin 2) (q k v : FVec F S512x1024 .bf16) (h : Fin 8) : FVec F S256x128 .bf16 :=
  head (extractStridedSlice S256x128 ![256 * b.val, 128 * h.val] q (slices_q b h)) (extractStridedSlice S512x128 ![0, 128 * h.val] k (slices_k h))
    (extractStridedSlice S512x128 ![0, 128 * h.val] v (slices_k h))

/-- Eight heads side by side, times the output weights. -/
def project (f : Fin 8 → FVec F S256x128 .bf16) (wo : FVec F S1024x1024 .bf16) : FVec F S256x1024 .bf16 :=
  truncf .bf16 (matmul dot_S256x1024_S1024x1024_S256x1024_1_0_0_1_n_n none
    (concatenate S256x1024 1 (List.ofFn fun n : Fin 8 => (⟨S256x128, f n⟩ : (s : Shape) × (s.Idx → F .bf16))) concatenates_S256x128_S256x128_S256x128_S256x128_S256x128_S256x128_S256x128_S256x128_S256x1024_d1)
    wo (constant S256x1024 .f32 0x00000000#32)) bitsLt_bf16_f32

variable (m : (ℓ : Loc nD τ sig) → Buf (Elt F) ℓ) (ρ : Dev nD → PrngReg)

theorem prod0_eq (c : Dev nD) : prod0 m ρ c = project (headAt 0 (qv m ρ c) (kv m ρ c) (vv m ρ c)) (wov m ρ c) := rfl
theorem prod1_eq (c : Dev nD) : prod1 m ρ c = project (headAt 1 (qv m ρ c) (kv m ρ c) (vv m ρ c)) (wov m ρ c) := rfl

end Steps

/-! ## At an index -/

theorem head_apply (q : FVec Ideal S256x128 .bf16) (k v : FVec Ideal S512x128 .bf16) (r : Fin 256) (d : Fin 128) :
    head q k v (ix2 r d) = weigh (fun j => ∑ e : Fin 128, q (ix2 r e) * k (ix2 j e)) (fun j => v (ix2 j d)) := by
  pointwise [head, weigh]

theorem slice_q_apply (b : Fin 2) (h : Fin 8) (q : FVec Ideal S512x1024 .bf16) (r : Fin 256) (d : Fin 128) :
    extractStridedSlice S256x128 ![256 * b.val, 128 * h.val] q (slices_q b h) (ix2 r d) = q (ix2 ⟨256 * b.val + r.val, by omega⟩ ⟨128 * h.val + d.val, by omega⟩) := by
  pointwise
theorem slice_k_apply (h : Fin 8) (k : FVec Ideal S512x1024 .bf16) (r : Fin 512) (d : Fin 128) :
    extractStridedSlice S512x128 ![0, 128 * h.val] k (slices_k h) (ix2 r d) = k (ix2 r ⟨128 * h.val + d.val, by omega⟩) := by
  pointwise

/-- A head's result at row `i` and column `d`, from the columns of the queries, keys and values that belong to the head. -/
theorem headAt_apply (b : Fin 2) (q k v : FVec Ideal S512x1024 .bf16) (h : Fin 8) (r : Fin 256) (d : Fin 128) :
    headAt b q k v h (ix2 r d) = weigh (fun j => ∑ e : Fin 128, q (ix2 ⟨256 * b.val + r.val, by omega⟩ ⟨128 * h.val + e.val, by omega⟩) * k (ix2 j ⟨128 * h.val + e.val, by omega⟩))
      (fun j => v (ix2 j ⟨128 * h.val + d.val, by omega⟩)) := by
  unfold headAt
  rw [head_apply]
  simp only [slice_q_apply, slice_k_apply]

theorem beside_apply (f : Fin 8 → FVec Ideal S256x128 .bf16) (r : Fin 256) (k : Fin 1024) :
    concatenate S256x1024 1 (List.ofFn fun n : Fin 8 => (⟨S256x128, f n⟩ : (s : Shape) × (s.Idx → Ideal .bf16))) concatenates_S256x128_S256x128_S256x128_S256x128_S256x128_S256x128_S256x128_S256x128_S256x1024_d1 (ix2 r k)
      = f ⟨k.val / 128, by omega⟩ (ix2 r ⟨k.val % 128, Nat.mod_lt _ (by decide)⟩) := by
  refine concatenate_ofFn_apply (t := S256x1024) (s₁ := S256x128) (1 : Fin 2) f _ rfl 128 rfl (ix2 r k) ⟨k.val / 128, by omega⟩ rfl (ix2 r ⟨k.val % 128, Nat.mod_lt _ (by decide)⟩) rfl ?_
  intro b hb
  match b with
  | 0 => rfl
  | 1 => exact absurd rfl hb

theorem project_apply (f : Fin 8 → FVec Ideal S256x128 .bf16) (wo : FVec Ideal S1024x1024 .bf16) (r : Fin 256) (n : Fin 1024) :
    project f wo (ix2 r n) = ∑ k : Fin 1024, f ⟨k.val / 128, by omega⟩ (ix2 r ⟨k.val % 128, Nat.mod_lt _ (by decide)⟩) * wo (ix2 k n) := by
  simp only [← beside_apply f]
  unfold project
  generalize concatenate S256x1024 1 _ _ = X
  pointwise

theorem pay3_apply (x : Vec Ideal S1x512x1024 .bf16) (w : Vec Ideal S1024x1024 .bf16) (r : Fin 512) (d : Fin 1024) :
    k0_pay3 x w (ix2 r d) = (∑ i : Fin 1024, x (ix3 0 r i) * w (ix2 i d)) * Ideal.ofBits .f32 0x3DB504F3#32 := by
  pointwise [k0_pay3, k0_pay2]
theorem pay4_apply (x : Vec Ideal S1x512x1024 .bf16) (w : Vec Ideal S1024x1024 .bf16) (r : Fin 512) (d : Fin 1024) :
    k0_pay4 x w (ix2 r d) = ∑ i : Fin 1024, x (ix3 0 r i) * w (ix2 i d) := by
  pointwise [k0_pay4, k0_pay2]
theorem pay5_apply (x : Vec Ideal S1x512x1024 .bf16) (w : Vec Ideal S1024x1024 .bf16) (r : Fin 512) (d : Fin 1024) :
    k0_pay5 x w (ix2 r d) = ∑ i : Fin 1024, x (ix3 0 r i) * w (ix2 i d) := by
  pointwise [k0_pay5, k0_pay2]
theorem pay6_apply (w : Vec Ideal S1024x1024 .bf16) (r d : Fin 1024) : k0_pay6 w (ix2 r d) = w (ix2 r d) := by
  pointwise [k0_pay6]

end Cert.Exchange

end
-- ==== Proof.Total.lean ====
/-
# The result block at an index

The three steps of the butterfly add up all eight devices' partial products, in some order and with some brackets: over
the extended reals, their sum. So the result block of every device holds, at each row and column, the sum of the eight
partial products there; and the operands and the result are whole arrays of the device's memory.
-/
module

public import proofs.«01_k».proof.Proof.Attention
public import proofs.«01_k».proof.Proof.Result
public import proofs.«01_k».proof.Proof.Launch

@[expose] public section

set_option maxRecDepth 16384

noncomputable section

namespace Cert.Exchange

open Cert.KernelIdeal Cert.KernelIdeal.Gen

open Idealize.ShloMosaic
open Idealize.ShloMosaic.TcCoe

/-! ## The butterfly -/

/-- The devices in the order in which the butterfly of first mask `p` adds them up at device `c`. -/
def order (c : Dev nD) (p : Fin 3) : List (Dev nD) :=
  [c, flip c p, flip c (p + 1), flip (flip c (p + 1)) p,
    flip c (p + 2), flip (flip c (p + 2)) p, flip (flip c (p + 2)) (p + 1), flip (flip (flip c (p + 2)) (p + 1)) p]

/-- Every device once. -/
theorem order_perm (c : Dev nD) (p : Fin 3) : (order c p).Perm (List.finRange nD) := by revert c p; decide

theorem butterfly (f : Dev nD → EReal) (c : Dev nD) (p : Fin 3) :
    ((f c + f (flip c p)) + (f (flip c (p + 1)) + f (flip (flip c (p + 1)) p)))
      + ((f (flip c (p + 2)) + f (flip (flip c (p + 2)) p)) + (f (flip (flip c (p + 2)) (p + 1)) + f (flip (flip (flip c (p + 2)) (p + 1)) p)))
      = ∑ d : Dev nD, f d := by
  rw [Fin.sum_univ_def, ← ((order_perm c p).map f).sum_eq]
  simp only [order, List.map_cons, List.map_nil, List.sum_cons, List.sum_nil, add_zero, add_assoc]

theorem add384_apply (a b : V384 Ideal) (r : Fin 256) (d : Fin 384) : add384 a b (ix2 r d) = a (ix2 r d) + b (ix2 r d) := by
  pointwise [add384, k0_pay41]
theorem add256_apply (a b : V256 Ideal) (r d : Fin 256) : add256 a b (ix2 r d) = a (ix2 r d) + b (ix2 r d) := by
  pointwise [add256]
theorem fin384_apply (a b : V384 Ideal) (r : Fin 256) (d : Fin 384) : fin384 a b (ix3 0 r d) = a (ix2 r d) + b (ix2 r d) := by
  pointwise [fin384]
theorem fin256_apply (a b : V256 Ideal) (r d : Fin 256) : fin256 a b (ix3 0 r d) = a (ix2 r d) + b (ix2 r d) := by
  pointwise [fin256]
theorem cutA_apply (P : FVec Ideal S256x1024 .bf16) (r : Fin 256) (d : Fin 384) : cutA P (ix2 r d) = P (ix2 r ⟨d.val, by omega⟩) := by
  pointwise [cutA]
theorem cutB_apply (P : FVec Ideal S256x1024 .bf16) (r : Fin 256) (d : Fin 384) : cutB P (ix2 r d) = P (ix2 r ⟨384 + d.val, by omega⟩) := by
  pointwise [cutB]
theorem cutC_apply (P : FVec Ideal S256x1024 .bf16) (r d : Fin 256) : cutC P (ix2 r d) = P (ix2 r ⟨768 + d.val, by omega⟩) := by
  pointwise [cutC]

/-- A lane's last sum is over all devices. -/
theorem lane384 (A : Dev nD → V384 Ideal) (p : Fin 3) (c : Dev nD) (r : Fin 256) (d : Fin 384) :
    fin384 (run384 A p 2 c) (run384 A p 2 (flip c (p + 2))) (ix3 0 r d) = ∑ c' : Dev nD, A c' (ix2 r d) := by
  rw [fin384_apply]
  simp only [run384, add384_apply]
  exact butterfly (fun c' => A c' (ix2 r d)) c p
theorem lane256 (A : Dev nD → V256 Ideal) (p : Fin 3) (c : Dev nD) (r d : Fin 256) :
    fin256 (run256 A p 2 c) (run256 A p 2 (flip c (p + 2))) (ix3 0 r d) = ∑ c' : Dev nD, A c' (ix2 r d) := by
  rw [fin256_apply]
  simp only [run256, add256_apply]
  exact butterfly (fun c' => A c' (ix2 r d)) c p

/-! ## The result block -/

variable (m : (ℓ : Loc nD τ sig) → Buf (Elt Ideal) ℓ) (ρ : Dev nD → PrngReg)

theorem last0_apply (c : Dev nD) (r : Fin 256) (d : Fin 384) :
    last0 m ρ c (ix3 0 r d) = ∑ c' : Dev nD, prod0 m ρ c' (ix2 r ⟨d.val, by omega⟩) := by
  unfold last0 sum0; rw [show (2 : Fin 3) = 0 + 2 from rfl]; refine (lane384 _ 0 c r d).trans ?_; simp only [cutA_apply]
theorem last1_apply (c : Dev nD) (r : Fin 256) (d : Fin 384) :
    last1 m ρ c (ix3 0 r d) = ∑ c' : Dev nD, prod0 m ρ c' (ix2 r ⟨384 + d.val, by omega⟩) :=
  (lane384 _ 1 c r d).trans (Finset.sum_congr rfl fun _ _ => cutB_apply _ _ _)
theorem last2_apply (c : Dev nD) (r d : Fin 256) :
    last2 m ρ c (ix3 0 r d) = ∑ c' : Dev nD, prod0 m ρ c' (ix2 r ⟨768 + d.val, by omega⟩) :=
  (lane256 _ 2 c r d).trans (Finset.sum_congr rfl fun _ _ => cutC_apply _ _ _)
theorem last3_apply (c : Dev nD) (r : Fin 256) (d : Fin 384) :
    last3 m ρ c (ix3 0 r d) = ∑ c' : Dev nD, prod1 m ρ c' (ix2 r ⟨d.val, by omega⟩) :=
  (lane384 _ 0 c r d).trans (Finset.sum_congr rfl fun _ _ => cutA_apply _ _ _)
theorem last4_apply (c : Dev nD) (r : Fin 256) (d : Fin 384) :
    last4 m ρ c (ix3 0 r d) = ∑ c' : Dev nD, prod1 m ρ c' (ix2 r ⟨384 + d.val, by omega⟩) :=
  (lane384 _ 1 c r d).trans (Finset.sum_congr rfl fun _ _ => cutB_apply _ _ _)
theorem last5_apply (c : Dev nD) (r d : Fin 256) :
    last5 m ρ c (ix3 0 r d) = ∑ c' : Dev nD, prod1 m ρ c' (ix2 r ⟨768 + d.val, by omega⟩) :=
  (lane256 _ 2 c r d).trans (Finset.sum_congr rfl fun _ _ => cutC_apply _ _ _)

/-- Where a rectangle of rows from `i₀` and columns from `j₀` has its index `(0, r, d)`. -/
theorem emb_eq {i₀ j₀ n : ℕ} {inb} (r : Fin 256) (d : Fin n) (R : Fin 512) (N : Fin 1024) (hR : R.val = i₀ + r.val) (hN : N.val = j₀ + d.val) :
    (ix3 0 R N : S1x512x1024.Idx) = (Rect.unit (s := S1x512x1024) ![0, i₀, j₀] ![1, 256, n] inb).emb (ix3 0 r d) := by
  refine funext fun a => Fin.ext ?_
  rw [Rect.emb_apply]
  match a with
  | 0 => rfl
  | 1 => exact hR.trans (congrArg (i₀ + ·) (Nat.one_mul _).symm)
  | 2 => exact hN.trans (congrArg (j₀ + ·) (Nat.one_mul _).symm)

/-- The first 256 rows of the result; -/
theorem outAt_low (c : Dev nD) (r : Fin 256) (n : Fin 1024) :
    outAt m ρ c (ix3 0 ⟨r.val, by omega⟩ n) = ∑ c' : Dev nD, prod0 m ρ c' (ix2 r n) := by
  unfold outAt
  have hn := n.isLt
  by_cases h₁ : n.val < 384
  · rw [emb_eq (i₀ := 0) (j₀ := 0) (inb := inb_S1x512x1024_S1x256x384_0_0_0) r ⟨n.val, h₁⟩ _ n (Nat.zero_add _).symm (Nat.zero_add _).symm]
    exact (outFrom_0 m ρ _ c _).trans (last0_apply m ρ c r _)
  by_cases h₂ : n.val < 768
  · have e : n = ⟨384 + (n.val - 384), by omega⟩ := Fin.ext (by show n.val = 384 + (n.val - 384); omega)
    rw [emb_eq (i₀ := 0) (j₀ := 384) (inb := inb_S1x512x1024_S1x256x384_0_0_384) r ⟨n.val - 384, by omega⟩ _ n (Nat.zero_add _).symm (congrArg Fin.val e)]
    refine (outFrom_1 m ρ _ c _).trans ((last1_apply m ρ c r _).trans ?_)
    rw [← e]
  · have e : n = ⟨768 + (n.val - 768), by omega⟩ := Fin.ext (by show n.val = 768 + (n.val - 768); omega)
    rw [emb_eq (i₀ := 0) (j₀ := 768) (inb := inb_S1x512x1024_S1x256x256_0_0_768) r ⟨n.val - 768, by omega⟩ _ n (Nat.zero_add _).symm (congrArg Fin.val e)]
    refine (outFrom_2 m ρ _ c _).trans ((last2_apply m ρ c r _).trans ?_)
    rw [← e]
/-- and the last 256. -/
theorem outAt_high (c : Dev nD) (r : Fin 256) (n : Fin 1024) :
    outAt m ρ c (ix3 0 ⟨256 + r.val, by omega⟩ n) = ∑ c' : Dev nD, prod1 m ρ c' (ix2 r n) := by
  unfold outAt
  have hn := n.isLt
  by_cases h₁ : n.val < 384
  · rw [emb_eq (i₀ := 256) (j₀ := 0) (inb := inb_S1x512x1024_S1x256x384_0_256_0) r ⟨n.val, h₁⟩ _ n rfl (Nat.zero_add _).symm]
    exact (outFrom_3 m ρ _ c _).trans (last3_apply m ρ c r _)
  by_cases h₂ : n.val < 768
  · have e : n = ⟨384 + (n.val - 384), by omega⟩ := Fin.ext (by show n.val = 384 + (n.val - 384); omega)
    rw [emb_eq (i₀ := 256) (j₀ := 384) (inb := inb_S1x512x1024_S1x256x384_0_256_384) r ⟨n.val - 384, by omega⟩ _ n rfl (congrArg Fin.val e)]
    refine (outFrom_4 m ρ _ c _).trans ((last4_apply m ρ c r _).trans ?_)
    rw [← e]
  · have e : n = ⟨768 + (n.val - 768), by omega⟩ := Fin.ext (by show n.val = 768 + (n.val - 768); omega)
    rw [emb_eq (i₀ := 256) (j₀ := 768) (inb := inb_S1x512x1024_S1x256x256_0_256_768) r ⟨n.val - 768, by omega⟩ _ n rfl (congrArg Fin.val e)]
    refine (outFrom_5 m ρ _ c _).trans ((last5_apply m ρ c r _).trans ?_)
    rw [← e]

/-! ## Whole arrays -/

theorem zero_off (n : ℕ) (f : Fin n → ℕ) : (fun a => (fun _ => 0 : Fin n → ℕ) a * f a) = fun _ => 0 := funext fun _ => Nat.zero_mul _

theorem xin_eq (c : Dev nD) : xin m ρ c = m ((c : Thread nD τ).loc main_arg0) :=
  Memref.read_access_unit_zero (Elt Ideal) main_arg0 (zero_off _ _) (fun a => by fin_cases a <;> decide) _
theorem wqin_eq (c : Dev nD) : wqin m ρ c = m ((c : Thread nD τ).loc main_arg1) :=
  Memref.read_access_unit_zero (Elt Ideal) main_arg1 (zero_off _ _) (fun a => by fin_cases a <;> decide) _
theorem woin_eq (c : Dev nD) : woin m ρ c = m ((c : Thread nD τ).loc main_arg4) :=
  Memref.read_access_unit_zero (Elt Ideal) main_arg4 (zero_off _ _) (fun a => by fin_cases a <;> decide) _
theorem wkin_eq (c : Dev nD) : wkin m ρ c = m ((c : Thread nD τ).loc main_arg2) :=
  Memref.read_access_unit_zero (Elt Ideal) main_arg2 (zero_off _ _) (fun a => by fin_cases a <;> decide) _
theorem wvin_eq (c : Dev nD) : wvin m ρ c = m ((c : Thread nD τ).loc main_arg3) :=
  Memref.read_access_unit_zero (Elt Ideal) main_arg3 (zero_off _ _) (fun a => by fin_cases a <;> decide) _

/-- The result array after the run is the result block. -/
theorem finalA_out (c : Dev nD) : finalA m ρ c (5 : Fin 6) = outAt m ρ c := by
  have h : (win0_5.blk (0 : Fin 1)).view.read (Elt Ideal) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt Ideal) main_v1 (zero_off _ _) (fun a => by fin_cases a <;> decide) _).symm.trans h

end Cert.Exchange

end
-- ==== Proof.Plain.lean ====
/-
# The reference's value at an index

The reference in five steps (a projection, the scores, their exponentials below the row's maximum, the weighted mean of
the values, the output product), and what each step holds at an index when the floats are the extended reals.
-/
module

public import proofs.«01_k».proof.Proof.Gen.ReferenceIdeal.Run
public import Idealize.ShloMosaic.Lib.Pointwise
public import proofs.«01_k».proof.Proof.Equation

@[expose] public section

set_option maxRecDepth 16384

noncomputable section

namespace Cert.Exchange.Plain

open Cert.ReferenceIdeal Cert.ReferenceIdeal.Gen

open Idealize.ShloMosaic
open Idealize.ShloMosaic.TcCoe

section Steps
variable {F : FTy → Type} [FloatOps F]

/-- Queries, keys or values: the input times a weight, cut into 64 heads of 128. -/
def proj (x : FVec F S1x512x1024 .bf16) (w : FVec F S1024x8192 .bf16) : FVec F S512x64x128 .bf16 :=
  shapeCast _ (truncf .bf16 (Host.dotGeneral dot_S512x1024_S1024x8192_S512x8192_1_0_0_1_n_n none (shapeCast _ x shapeCasts_S1x512x1024_S512x1024) w) bitsLt_bf16_f32) shapeCasts_S512x8192_S512x64x128

/-- The scaled scores, head by head. -/
def score (q k : FVec F S512x64x128 .bf16) : FVec F S64x512x512 .f32 :=
  mulf (extf .f32 (truncf .bf16 (Host.dotGeneral dot_S512x64x128_S512x64x128_S64x512x512_2_2_0_0_1_1 none q k) bitsLt_bf16_f32) bitsLt_bf16_f32) (broadcastInDim S64x512x512 ![] bcast_S_S64x512x512 (constant S_ .f32 0x3DB504F3#32))

/-- The greatest score of each row. -/
def top (s : FVec F S64x512x512 .f32) : FVec F S64x512 .f32 :=
  Host.reduce FloatOps.maximumf s (constant S_ .f32 0xFF800000#32) reducesTo_S64x512x512_S64x512_d2 h_S_

/-- The exponentials of the scores less their row's greatest. -/
def weights (s : FVec F S64x512x512 .f32) : FVec F S64x512x512 .f32 :=
  Host.exp (subf s (broadcastInDim S64x512x512 ![0, 1, 2] bcast_S64x512x1_S64x512x512_0_1_2 (broadcastInDim S64x512x1 ![0, 1] bcast_S64x512_S64x512x1_0_1 (top s))))

/-- The weighted mean of the values. -/
def mean (p : FVec F S64x512x512 .f32) (v : FVec F S512x64x128 .bf16) : FVec F S512x64x128 .f32 :=
  Host.divf (transpose S512x64x128 [2, 0, 1] (Host.dotGeneral dot_S512x64x128_S64x512x512_S64x128x512_0_2_2_1_1_0 none (extf .f32 v bitsLt_bf16_f32) p) transposes_S64x128x512_S512x64x128_2_0_1)
    (broadcastInDim S512x64x128 ![0, 1, 2] bcast_S512x64x1_S512x64x128_0_1_2 (transpose S512x64x1 [1, 0, 2] (broadcastInDim S64x512x1 ![0, 1] bcast_S64x512_S64x512x1_0_1 (Host.reduceAdd p (constant S_ .f32 0x00000000#32) reducesTo_S64x512x512_S64x512_d2 h_S_)) transposes_S64x512x1_S512x64x1_1_0_2))

/-- The output product. -/
def final (a : FVec F S512x64x128 .f32) (wo : FVec F S8192x1024 .bf16) : FVec F S1x512x1024 .f32 :=
  broadcastInDim S1x512x1024 ![1, 2] bcast_S512x1024_S1x512x1024_1_2 (Host.dotGeneral dot_S512x8192_S8192x1024_S512x1024_1_0_0_1_n_n none (shapeCast _ a shapeCasts_S512x64x128_S512x8192) (extf .f32 wo bitsLt_bf16_f32))

/-- The reference's result. -/
def result (x : FVec F S1x512x1024 .bf16) (wq wk wv : FVec F S1024x8192 .bf16) (wo : FVec F S8192x1024 .bf16) : FVec F S1x512x1024 .f32 :=
  final (mean (weights (score (proj x wq) (proj x wk))) (proj x wv)) wo

theorem result_eq (m : (ℓ : Loc nD τ sig) → Buf (Elt F) ℓ) (c : Dev nD) :
    Cert.ReferenceIdeal.Value.res_main_v33 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v33 result final mean weights top score proj
  rfl

end Steps

/-! ## At an index -/

theorem proj_apply (x : FVec Ideal S1x512x1024 .bf16) (w : FVec Ideal S1024x8192 .bf16) (r : Fin 512) (h : Fin 64) (e : Fin 128) :
    proj x w (ix3 r h e) = ∑ i : Fin 1024, x (ix3 0 r i) * w (ix2 i ⟨h.val * 128 + e.val, by omega⟩) := by
  pointwise [proj]
theorem score_apply (q k : FVec Ideal S512x64x128 .bf16) (h : Fin 64) (i j : Fin 512) :
    score q k (ix3 h i j) = (∑ e : Fin 128, q (ix3 i h e) * k (ix3 j h e)) * Ideal.ofBits .f32 0x3DB504F3#32 := by
  pointwise [score]
theorem top_apply (s : FVec Ideal S64x512x512 .f32) (h : Fin 64) (i : Fin 512) :
    top s (ix2 h i) = Finset.univ.fold max (Ideal.ofBits .f32 0xFF800000#32) fun j : Fin 512 => s (ix3 h i j) := by
  pointwise [top]
theorem weights_apply (s : FVec Ideal S64x512x512 .f32) (h : Fin 64) (i j : Fin 512) :
    weights s (ix3 h i j) = Ideal.exp (s (ix3 h i j) - top s (ix2 h i)) := by
  pointwise [weights]
theorem mean_apply (p : FVec Ideal S64x512x512 .f32) (v : FVec Ideal S512x64x128 .bf16) (r : Fin 512) (h : Fin 64) (e : Fin 128) :
    mean p v (ix3 r h e) = Ideal.div (∑ j : Fin 512, v (ix3 j h e) * p (ix3 h r j)) (∑ j : Fin 512, p (ix3 h r j)) := by
  pointwise [mean]
theorem final_apply (a : FVec Ideal S512x64x128 .f32) (wo : FVec Ideal S8192x1024 .bf16) (r : Fin 512) (n : Fin 1024) :
    final a wo (ix3 0 r n) = ∑ k : Fin 8192, a (ix3 r ⟨k.val / 128, by omega⟩ ⟨k.val % 128, Nat.mod_lt _ (by decide)⟩) * wo (ix2 k n) := by
  pointwise [final]

/-- One row of one head, at one column of the values. -/
theorem row_apply (q k v : FVec Ideal S512x64x128 .bf16) (r : Fin 512) (h : Fin 64) (e : Fin 128) :
    mean (weights (score q k)) v (ix3 r h e)
      = weighTop (fun j => (∑ e : Fin 128, q (ix3 r h e) * k (ix3 j h e)) * Ideal.ofBits .f32 0x3DB504F3#32) (fun j => v (ix3 j h e)) := by
  rw [mean_apply]
  simp only [weights_apply, top_apply, score_apply]
  rfl

end Cert.Exchange.Plain

end
-- ==== Proof.Values.lean ====
/-
# The kernel's result is the reference's

On every device, from a finite input and finite query and key weights, the kernel leaves what the reference computes from the whole arrays.
-/
module

public import proofs.«01_k».proof.Proof.Total
public import proofs.«01_k».proof.Proof.Plain
public import proofs.«01_k».proof.Proof.Frames
public import proofs.«01_k».proof.Proof.Finite

@[expose] public section

set_option maxRecDepth 16384

noncomputable section

namespace Cert.Exchange

open Idealize.ShloMosaic
open Idealize.ShloMosaic.TcCoe
open Idealize.SL.Sem

/-! ## The two results at an index -/

/-- The projection of row `r` of the input to column `k` of a whole weight. -/
def dot (X : FVec Ideal ⟨3, ![1, 512, 1024]⟩ .bf16) (W : FVec Ideal ⟨2, ![1024, 8192]⟩ .bf16) (r : Fin 512) (k : Fin 8192) : EReal :=
  ∑ i : Fin 1024, X (ix3 0 r i) * W (ix2 i k)

/-- Column `e` of head `k / 128` of device `c`, in the whole arrays. -/
def col (c : Fin 8) (k : Fin 1024) (e : Fin 128) : Fin 8192 := ⟨1024 * c.val + 128 * (k.val / 128) + e.val, by omega⟩

/-- What both compute, at row `r` and column `n`. -/
def want (X : FVec Ideal ⟨3, ![1, 512, 1024]⟩ .bf16) (WQ WK WV : FVec Ideal ⟨2, ![1024, 8192]⟩ .bf16) (WO : FVec Ideal ⟨2, ![8192, 1024]⟩ .bf16)
    (r : Fin 512) (n : Fin 1024) : EReal :=
  ∑ c : Fin 8, ∑ k : Fin 1024,
    weigh (fun j => ∑ e : Fin 128, dot X WQ r (col c k e) * Ideal.ofBits .f32 0x3DB504F3#32 * dot X WK j (col c k e))
      (fun j => dot X WV j (col c k ⟨k.val % 128, Nat.mod_lt _ (by decide)⟩)) * WO (ix2 ⟨1024 * c.val + k.val, by omega⟩ n)

/-- The reference computes it, from a finite input and finite query and key weights. -/
theorem result_apply (X : FVec Ideal ⟨3, ![1, 512, 1024]⟩ .bf16) (WQ WK WV : FVec Ideal ⟨2, ![1024, 8192]⟩ .bf16) (WO : FVec Ideal ⟨2, ![8192, 1024]⟩ .bf16)
    (hX : ∀ i, IsReal (X i)) (hQ : ∀ i, IsReal (WQ i)) (hK : ∀ i, IsReal (WK i)) (r : Fin 512) (n : Fin 1024) :
    Plain.result X WQ WK WV WO (ix3 0 r n) = want X WQ WK WV WO r n := by
  have hdot : ∀ {W : FVec Ideal ⟨2, ![1024, 8192]⟩ .bf16} (_ : ∀ i, IsReal (W i)) (r k), IsReal (dot X W r k) :=
    fun hW r k => IsReal.sum fun i => (hX _).mul (hW _)
  have hproj : ∀ (W : FVec Ideal ⟨2, ![1024, 8192]⟩ .bf16) (c : Fin 8) (k : Fin 1024) (r : Fin 512) (e : Fin 128) (h : Fin 64),
      h.val = (1024 * c.val + k.val) / 128 → Plain.proj X W (ix3 r h e) = dot X W r (col c k e) := by
    intro W c k r e h hh
    rw [Plain.proj_apply]
    unfold dot
    refine Finset.sum_congr rfl fun i _ => ?_
    refine congrArg (fun q => X (ix3 0 r i) * W (ix2 i q)) (Fin.ext ?_)
    show h.val * 128 + e.val = 1024 * c.val + 128 * (k.val / 128) + e.val
    omega
  unfold Plain.result want
  rw [Plain.final_apply, sum_devices]
  refine Finset.sum_congr rfl fun c _ => Finset.sum_congr rfl fun k _ => congrArg (· * _) ?_
  rw [Plain.row_apply]
  simp only [hproj _ c k _ _ ⟨(1024 * c.val + k.val) / 128, by omega⟩ rfl]
  rw [weighTop_eq (fun j => (IsReal.sum fun e => (hdot hQ _ _).mul (hdot hK _ _)).mul isReal_scale)]
  refine congrArg₂ weigh (funext fun j => (scaled_dot isReal_scale (fun e => hdot hQ _ _) (fun e => hdot hK _ _)).symm) (funext fun j => ?_)
  refine congrArg (fun e => dot X WV j (col c k e)) (Fin.ext ?_)
  show (1024 * c.val + k.val) % 128 = k.val % 128
  omega

section Kernel
open Cert.KernelIdeal Cert.KernelIdeal.Gen

variable (m : (ℓ : Loc nD τ sig) → Buf (Elt Ideal) ℓ) (ρ : Dev nD → PrngReg)
variable (X : FVec Ideal ⟨3, ![1, 512, 1024]⟩ .bf16) (WQ WK WV : FVec Ideal ⟨2, ![1024, 8192]⟩ .bf16) (WO : FVec Ideal ⟨2, ![8192, 1024]⟩ .bf16)

/-- The devices hold their parts of the whole arrays. -/
def Parts : Prop := ∀ c : Dev nD,
  m ((c.tc : Thread nD τ).loc main_arg0) = X
  ∧ m ((c.tc : Thread nD τ).loc main_arg1) = Layout.block ⟨2, ![1024, 1024]⟩ ⟨2, ![1024, 8192]⟩ 1 8 c WQ
  ∧ m ((c.tc : Thread nD τ).loc main_arg2) = Layout.block ⟨2, ![1024, 1024]⟩ ⟨2, ![1024, 8192]⟩ 1 8 c WK
  ∧ m ((c.tc : Thread nD τ).loc main_arg3) = Layout.block ⟨2, ![1024, 1024]⟩ ⟨2, ![1024, 8192]⟩ 1 8 c WV
  ∧ m ((c.tc : Thread nD τ).loc main_arg4) = Layout.block ⟨2, ![1024, 1024]⟩ ⟨2, ![8192, 1024]⟩ 0 8 c WO

/-- Block `c` of a weight cut along its columns; -/
theorem block_cols (W : FVec Ideal ⟨2, ![1024, 8192]⟩ .bf16) (c : Fin 8) (i d : Fin 1024) :
    Layout.block ⟨2, ![1024, 1024]⟩ ⟨2, ![1024, 8192]⟩ 1 8 c W (by decide) (ix2 i d) = W (ix2 i ⟨1024 * c.val + d.val, by omega⟩) := by
  rw [Layout.block_apply]
  refine congrArg W (funext fun a => Fin.ext ?_)
  match a with
  | 0 => rfl
  | 1 => exact congrArg (· + d.val) (Nat.mul_comm c.val 1024)
/-- and along its rows. -/
theorem block_rows (W : FVec Ideal ⟨2, ![8192, 1024]⟩ .bf16) (c : Fin 8) (i d : Fin 1024) :
    Layout.block ⟨2, ![1024, 1024]⟩ ⟨2, ![8192, 1024]⟩ 0 8 c W (by decide) (ix2 i d) = W (ix2 ⟨1024 * c.val + i.val, by omega⟩ d) := by
  rw [Layout.block_apply]
  refine congrArg W (funext fun a => Fin.ext ?_)
  match a with
  | 0 => exact congrArg (· + i.val) (Nat.mul_comm c.val 1024)
  | 1 => rfl

/-- A column of the whole lies in some device's block. -/
theorem real_of_blocks {W : FVec Ideal ⟨2, ![1024, 8192]⟩ .bf16}
    (h : ∀ c : Fin 8, ∀ i, IsReal (Layout.block ⟨2, ![1024, 1024]⟩ ⟨2, ![1024, 8192]⟩ 1 8 c W (by decide) i)) (i) : IsReal (W i) := by
  obtain ⟨a, b, rfl⟩ : ∃ a b, i = ix2 a b := ⟨_, _, eq_ix2 i⟩
  have hb := b.isLt
  have e := h ⟨b.val / 1024, by omega⟩ (ix2 a ⟨b.val % 1024, Nat.mod_lt _ (by decide)⟩)
  rw [block_cols] at e
  rwa [show (⟨1024 * (b.val / 1024) + b.val % 1024, by omega⟩ : Fin 8192) = b from Fin.ext (Nat.div_add_mod _ _)] at e

variable {m X WQ WK WV WO}

theorem qv_apply (h : Parts m X WQ WK WV WO) (c : Dev nD) (r : Fin 512) (d : Fin 1024) :
    qv m ρ c (ix2 r d) = dot X WQ r ⟨1024 * c.val + d.val, by have := c.isLt; change c.val < 8 at this; omega⟩ * Ideal.ofBits .f32 0x3DB504F3#32 := by
  unfold qv
  rw [pay3_apply, xin_eq, wqin_eq, (h c).1, (h c).2.1]
  simp only [block_cols]
  rfl
theorem kv_apply (h : Parts m X WQ WK WV WO) (c : Dev nD) (r : Fin 512) (d : Fin 1024) :
    kv m ρ c (ix2 r d) = dot X WK r ⟨1024 * c.val + d.val, by have := c.isLt; change c.val < 8 at this; omega⟩ := by
  unfold kv
  rw [pay4_apply, xin_eq, wkin_eq, (h c).1, (h c).2.2.1]
  simp only [block_cols]
  rfl
theorem vv_apply (h : Parts m X WQ WK WV WO) (c : Dev nD) (r : Fin 512) (d : Fin 1024) :
    vv m ρ c (ix2 r d) = dot X WV r ⟨1024 * c.val + d.val, by have := c.isLt; change c.val < 8 at this; omega⟩ := by
  unfold vv
  rw [pay5_apply, xin_eq, wvin_eq, (h c).1, (h c).2.2.2.1]
  simp only [block_cols]
  rfl
theorem wov_apply (h : Parts m X WQ WK WV WO) (c : Dev nD) (k n : Fin 1024) :
    wov m ρ c (ix2 k n) = WO (ix2 ⟨1024 * c.val + k.val, by have := c.isLt; change c.val < 8 at this; omega⟩ n) := by
  unfold wov
  rw [pay6_apply, woin_eq, (h c).2.2.2.2]
  exact block_rows WO c k n

/-- A device's partial products, added up over the devices. -/
theorem products_sum (h : Parts m X WQ WK WV WO) (b : Fin 2) (r : Fin 256) (n : Fin 1024) :
    (∑ c : Dev nD, project (headAt b (qv m ρ c) (kv m ρ c) (vv m ρ c)) (wov m ρ c) (ix2 r n)) = want X WQ WK WV WO ⟨256 * b.val + r.val, by omega⟩ n := by
  unfold want
  refine Finset.sum_congr rfl fun c _ => ?_
  rw [project_apply]
  refine Finset.sum_congr rfl fun k _ => ?_
  rw [headAt_apply, wov_apply ρ h]
  simp only [qv_apply ρ h, kv_apply ρ h, vv_apply ρ h]
  have hc (e : Fin 128) : (⟨1024 * c.val + (128 * (k.val / 128) + e.val), by have := c.isLt; change c.val < 8 at this; omega⟩ : Fin 8192) = col c k e :=
    Fin.ext (Nat.add_assoc _ _ _).symm
  simp only [hc]
  rw [← hc ⟨k.val % 128, Nat.mod_lt _ (by decide)⟩]

/-- The kernel's result at an index. -/
theorem outAt_apply (h : Parts m X WQ WK WV WO) (c : Dev nD) (r : Fin 512) (n : Fin 1024) : outAt m ρ c (ix3 0 r n) = want X WQ WK WV WO r n := by
  have hr := r.isLt
  by_cases hr' : r.val < 256
  · have e := (outAt_low m ρ c ⟨r.val, hr'⟩ n).trans (products_sum ρ h 0 ⟨r.val, hr'⟩ n)
    rwa [show (⟨256 * (0 : Fin 2).val + r.val, by omega⟩ : Fin 512) = r from Fin.ext (Nat.zero_add _)] at e
  · have e := (outAt_high m ρ c ⟨r.val - 256, by omega⟩ n).trans (products_sum ρ h 1 ⟨r.val - 256, by omega⟩ n)
    have e' : (⟨256 + (r.val - 256), by omega⟩ : Fin 512) = r := Fin.ext (by show 256 + (r.val - 256) = r.val; omega)
    rwa [show (⟨256 * (1 : Fin 2).val + (r.val - 256), by omega⟩ : Fin 512) = r from e', e'] at e

end Kernel

/-- Both run; every device's result is the reference's. -/
theorem algebraic [Cert.Pre_finite_KernelIdeal.Facts] : Cert.algebraic_KernelIdeal_ReferenceIdeal_pre_finite_KernelIdeal := by
  intro m ρ m' ρ' hpre hparts
  refine ⟨Cert.ReferenceIdeal.Value.res_main_v33 m' 0, ?_, ?_⟩
  · refine (θ_run Cert.KernelIdeal.defs _ _).mono (fun r hr c => ⟨((hr.2 c).trans (finalA_out m ρ c)).trans ?_, hr.1.1 c⟩) (run_frame (F := Ideal) m ρ)
    have fin := fun c : Dev Cert.KernelIdeal.nD => finite_args _ _ _ _ _ (hpre c)
    rw [Plain.result_eq]
    funext j
    obtain ⟨z, r, n, rfl⟩ : ∃ z r n, j = ix3 z r n := ⟨_, _, _, eq_ix3 j⟩
    obtain rfl : z = 0 := Subsingleton.elim _ _
    refine (outAt_apply ρ (fun c => hparts c) c r n).trans (result_apply _ _ _ _ _ ?_ ?_ ?_ r n).symm
    · exact fun i => (hparts 0).1 ▸ (fin 0).1 i
    · exact real_of_blocks fun c i => (hparts c).2.1 ▸ (fin c).2.1 i
    · exact real_of_blocks fun c i => (hparts c).2.2.1 ▸ (fin c).2.2 i
  · exact (θ_run Cert.ReferenceIdeal.defs _ _).mono (fun _ h => h 0) (Cert.ReferenceIdeal.Value.run (F := Ideal) m' ρ')

end Cert.Exchange

end
-- ==== Proof.lean ====
/-
# The claims

The kernel, its idealization and the reference run to completion, leave their arguments as they were and every counter
at zero; the idealization is the kernel's own text; and from a finite input and finite query and key weights the kernel
leaves on every device the whole result the reference computes.
-/
module

public import proofs.«01_k».proof.Defs
public import proofs.«01_k».proof.Proof.Frames
public import proofs.«01_k».proof.Proof.Finite
public import proofs.«01_k».proof.Proof.Values
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Exchange.facts_finite, Cert.Exchange.facts_finite_reference,
  Cert.Exchange.frame_kernel, Cert.Exchange.frame_ideal,
  (letI := Cert.Exchange.facts_finite; Cert.Exchange.frame_ideal_finite), Cert.Exchange.frame_reference,
  (letI := Cert.Exchange.facts_finite_reference; Cert.Exchange.frame_reference_finite), trivial,
  (letI := Cert.Exchange.facts_finite; Cert.Exchange.algebraic)⟩

end Cert.Proof

end
